-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v6)) (v5 : (c : Dev Cert.KernelIdeal.nD) → Buf (Elt Ideal) ((c.tc : Thread Cert.KernelIdeal.nD Cert.KernelIdeal.τ).loc Cert.KernelIdeal.main_v10)) (v6 : (c : Dev Cert.KernelIdeal.nD) → Buf (Elt Ideal) ((c.tc : Thread Cert.KernelIdeal.nD Cert.KernelIdeal.τ).loc Cert.KernelIdeal.main_v16)) (v7 : (c : Dev Cert.KernelIdeal.nD) → Buf (Elt Ideal) ((c.tc : Thread Cert.KernelIdeal.nD Cert.KernelIdeal.τ).loc Cert.KernelIdeal.main_v17)) (v8 : (c : Dev Cert.KernelIdeal.nD) → Buf (Elt Ideal) ((c.tc : Thread Cert.KernelIdeal.nD Cert.KernelIdeal.τ).loc Cert.KernelIdeal.main_v5_0)) (v9 : (c : Dev Cert.KernelIdeal.nD) → Buf (Elt Ideal) ((c.tc : Thread Cert.KernelIdeal.nD Cert.KernelIdeal.τ).loc Cert.KernelIdeal.main_v18)) (v10 : (c : Dev Cert.KernelIdeal.nD) → Buf (Elt Ideal) ((c.tc : Thread Cert.KernelIdeal.nD Cert.KernelIdeal.τ).loc Cert.KernelIdeal.main_v19)) (v11 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_v16) = v6 c
          ∧ r.2.mem ((c.tc : Thread Cert.KernelIdeal.nD Cert.KernelIdeal.τ).loc Cert.KernelIdeal.main_v17) = v7 c
          ∧ r.2.mem ((c.tc : Thread Cert.KernelIdeal.nD Cert.KernelIdeal.τ).loc Cert.KernelIdeal.main_v5_0) = v8 c
          ∧ r.2.mem ((c.tc : Thread Cert.KernelIdeal.nD Cert.KernelIdeal.τ).loc Cert.KernelIdeal.main_v18) = v9 c
          ∧ r.2.mem ((c.tc : Thread Cert.KernelIdeal.nD Cert.KernelIdeal.τ).loc Cert.KernelIdeal.main_v19) = v10 c
          ∧ r.2.mem ((c.tc : Thread Cert.KernelIdeal.nD Cert.KernelIdeal.τ).loc Cert.KernelIdeal.main_v20) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v90) = v5 c
          ∧ r.2.mem ((c.tc : Thread Cert.ReferenceIdeal.nD Cert.ReferenceIdeal.τ).loc Cert.ReferenceIdeal.main_v59_0) = v6 c
          ∧ r.2.mem ((c.tc : Thread Cert.ReferenceIdeal.nD Cert.ReferenceIdeal.τ).loc Cert.ReferenceIdeal.main_v19) = v7 c
          ∧ r.2.mem ((c.tc : Thread Cert.ReferenceIdeal.nD Cert.ReferenceIdeal.τ).loc Cert.ReferenceIdeal.main_v59_1) = v8 c
          ∧ r.2.mem ((c.tc : Thread Cert.ReferenceIdeal.nD Cert.ReferenceIdeal.τ).loc Cert.ReferenceIdeal.main_v38) = v9 c
          ∧ r.2.mem ((c.tc : Thread Cert.ReferenceIdeal.nD Cert.ReferenceIdeal.τ).loc Cert.ReferenceIdeal.main_v59_2) = v10 c
          ∧ r.2.mem ((c.tc : Thread Cert.ReferenceIdeal.nD Cert.ReferenceIdeal.τ).loc Cert.ReferenceIdeal.main_v58) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x4096 : Shape := ⟨3, ![4, 3072, 4096]⟩
abbrev S4096x8192 : Shape := ⟨2, ![4096, 8192]⟩
abbrev S4x3072x8192 : Shape := ⟨3, ![4, 3072, 8192]⟩
abbrev S16 : Shape := ⟨1, ![16]⟩
abbrev S12288x4096 : Shape := ⟨2, ![12288, 4096]⟩
abbrev S1x16 : Shape := ⟨2, ![1, 16]⟩
abbrev S1x1 : Shape := ⟨2, ![1, 1]⟩
abbrev S512x4096 : Shape := ⟨2, ![512, 4096]⟩
abbrev S8x4096 : Shape := ⟨2, ![8, 4096]⟩
abbrev S1 : Shape := ⟨1, ![1]⟩
abbrev S1x384 : Shape := ⟨2, ![1, 384]⟩
abbrev S64x8x4096 : Shape := ⟨3, ![64, 8, 4096]⟩
abbrev S1x8x4096 : Shape := ⟨3, ![1, 8, 4096]⟩
abbrev S1x1x1 : Shape := ⟨3, ![1, 1, 1]⟩
abbrev S256x8192 : Shape := ⟨2, ![256, 8192]⟩
abbrev S8x8192 : Shape := ⟨2, ![8, 8192]⟩
abbrev S32x8x8192 : Shape := ⟨3, ![32, 8, 8192]⟩
abbrev S1x8x8192 : Shape := ⟨3, ![1, 8, 8192]⟩
abbrev S12288x8192 : Shape := ⟨2, ![12288, 8192]⟩
abbrev S1024x4096 : Shape := ⟨2, ![1024, 4096]⟩
abbrev S4096x1024 : Shape := ⟨2, ![4096, 1024]⟩
abbrev S1024x1024 : Shape := ⟨2, ![1024, 1024]⟩
abbrev S1024x8192 : Shape := ⟨2, ![1024, 8192]⟩
abbrev S2048x1024 : Shape := ⟨2, ![2048, 1024]⟩
abbrev S2048x2048 : Shape := ⟨2, ![2048, 2048]⟩
abbrev S1024x2048 : Shape := ⟨2, ![1024, 2048]⟩
abbrev S_ : Shape := ⟨0, ![]⟩

abbrev nBuf : Space → Nat
  | .hbm => 33
  | .vmem => 42
  | .smem => 6
  | _ => 0

abbrev bufTy : (tb : Table) → Fin (tcTables nBuf tb) → BufTy
  | .hbm, ⟨0, _⟩ => ⟨S4x3072x4096, .bf16⟩
  | .hbm, ⟨1, _⟩ => ⟨S4096x8192, .f32⟩
  | .hbm, ⟨2, _⟩ => ⟨S4x3072x8192, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S12288x4096, .bf16⟩
  | .hbm, ⟨7, _⟩ => ⟨S1x16, .f32⟩
  | .hbm, ⟨8, _⟩ => ⟨S12288x4096, .fp8e4m3⟩
  | .hbm, ⟨9, _⟩ => ⟨S1x1, .f32⟩
  | .hbm, ⟨10, _⟩ => ⟨S1x16, .f32⟩
  | .hbm, ⟨11, _⟩ => ⟨S16, .f32⟩
  | .hbm, ⟨12, _⟩ => ⟨S1x16, .f32⟩
  | .hbm, ⟨13, _⟩ => ⟨S4096x8192, .fp8e4m3⟩
  | .hbm, ⟨14, _⟩ => ⟨S1x1, .f32⟩
  | .hbm, ⟨15, _⟩ => ⟨S1x16, .f32⟩
  | .hbm, ⟨16, _⟩ => ⟨S16, .f32⟩
  | .hbm, ⟨17, _⟩ => ⟨S12288x8192, .bf16⟩
  | .hbm, ⟨18, _⟩ => ⟨S1x16, .f32⟩
  | .hbm, ⟨19, _⟩ => ⟨S12288x8192, .fp8e5m2⟩
  | .hbm, ⟨20, _⟩ => ⟨S1x1, .f32⟩
  | .hbm, ⟨21, _⟩ => ⟨S1x16, .f32⟩
  | .hbm, ⟨22, _⟩ => ⟨S16, .f32⟩
  | .hbm, ⟨23, _⟩ => ⟨S12288x8192, .bf16⟩
  | .hbm, ⟨24, _⟩ => ⟨S12288x4096, .bf16⟩
  | .hbm, ⟨25, _⟩ => ⟨S4096x8192, .f32⟩
  | .hbm, ⟨26, _⟩ => ⟨S4x3072x8192, .bf16⟩
  | .hbm, ⟨27, _⟩ => ⟨S4x3072x4096, .bf16⟩
  | .hbm, ⟨28, _⟩ => ⟨S4x3072x4096, .fp8e4m3⟩
  | .hbm, ⟨29, _⟩ => ⟨S_, .f32⟩
  | .hbm, ⟨30, _⟩ => ⟨S_, .f32⟩
  | .hbm, ⟨31, _⟩ => ⟨S4x3072x8192, .fp8e5m2⟩
  | .hbm, ⟨32, _⟩ => ⟨S_, .f32⟩
  | .local _ .vmem, ⟨0, _⟩ => ⟨S1x16, .f32⟩
  | .local _ .vmem, ⟨1, _⟩ => ⟨S512x4096, .bf16⟩
  | .local _ .vmem, ⟨2, _⟩ => ⟨S512x4096, .bf16⟩
  | .local _ .vmem, ⟨3, _⟩ => ⟨S512x4096, .fp8e4m3⟩
  | .local _ .vmem, ⟨4, _⟩ => ⟨S512x4096, .fp8e4m3⟩
  | .local _ .vmem, ⟨5, _⟩ => ⟨S1x1, .f32⟩
  | .local _ .vmem, ⟨6, _⟩ => ⟨S1x16, .f32⟩
  | .local _ .vmem, ⟨7, _⟩ => ⟨S8x4096, .f32⟩
  | .local _ .vmem, ⟨8, _⟩ => ⟨S1x16, .f32⟩
  | .local _ .vmem, ⟨9, _⟩ => ⟨S256x8192, .f32⟩
  | .local _ .vmem, ⟨10, _⟩ => ⟨S256x8192, .f32⟩
  | .local _ .vmem, ⟨11, _⟩ => ⟨S256x8192, .fp8e4m3⟩
  | .local _ .vmem, ⟨12, _⟩ => ⟨S256x8192, .fp8e4m3⟩
  | .local _ .vmem, ⟨13, _⟩ => ⟨S1x1, .f32⟩
  | .local _ .vmem, ⟨14, _⟩ => ⟨S1x16, .f32⟩
  | .local _ .vmem, ⟨15, _⟩ => ⟨S8x8192, .f32⟩
  | .local _ .vmem, ⟨16, _⟩ => ⟨S1x16, .f32⟩
  | .local _ .vmem, ⟨17, _⟩ => ⟨S256x8192, .bf16⟩
  | .local _ .vmem, ⟨18, _⟩ => ⟨S256x8192, .bf16⟩
  | .local _ .vmem, ⟨19, _⟩ => ⟨S256x8192, .fp8e5m2⟩
  | .local _ .vmem, ⟨20, _⟩ => ⟨S256x8192, .fp8e5m2⟩
  | .local _ .vmem, ⟨21, _⟩ => ⟨S1x1, .f32⟩
  | .local _ .vmem, ⟨22, _⟩ => ⟨S1x16, .f32⟩
  | .local _ .vmem, ⟨23, _⟩ => ⟨S8x8192, .f32⟩
  | .local _ .vmem, ⟨24, _⟩ => ⟨S1024x4096, .fp8e4m3⟩
  | .local _ .vmem, ⟨25, _⟩ => ⟨S1024x4096, .fp8e4m3⟩
  | .local _ .vmem, ⟨26, _⟩ => ⟨S4096x1024, .fp8e4m3⟩
  | .local _ .vmem, ⟨27, _⟩ => ⟨S4096x1024, .fp8e4m3⟩
  | .local _ .vmem, ⟨28, _⟩ => ⟨S1024x1024, .bf16⟩
  | .local _ .vmem, ⟨29, _⟩ => ⟨S1024x1024, .bf16⟩
  | .local _ .vmem, ⟨30, _⟩ => ⟨S1024x8192, .fp8e5m2⟩
  | .local _ .vmem, ⟨31, _⟩ => ⟨S1024x8192, .fp8e5m2⟩
  | .local _ .vmem, ⟨32, _⟩ => ⟨S1024x8192, .fp8e4m3⟩
  | .local _ .vmem, ⟨33, _⟩ => ⟨S1024x8192, .fp8e4m3⟩
  | .local _ .vmem, ⟨34, _⟩ => ⟨S1024x1024, .bf16⟩
  | .local _ .vmem, ⟨35, _⟩ => ⟨S1024x1024, .bf16⟩
  | .local _ .vmem, ⟨36, _⟩ => ⟨S2048x1024, .fp8e4m3⟩
  | .local _ .vmem, ⟨37, _⟩ => ⟨S2048x1024, .fp8e4m3⟩
  | .local _ .vmem, ⟨38, _⟩ => ⟨S2048x2048, .fp8e5m2⟩
  | .local _ .vmem, ⟨39, _⟩ => ⟨S2048x2048, .fp8e5m2⟩
  | .local _ .vmem, ⟨40, _⟩ => ⟨S1024x2048, .f32⟩
  | .local _ .vmem, ⟨41, _⟩ => ⟨S1024x2048, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | _, _ => ⟨S4x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_scratch0 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc5_stg4_0 : Ref sig .tc := ⟨.vmem, 40, rfl⟩
abbrev cc5_stg4_1 : Ref sig .tc := ⟨.vmem, 41, rfl⟩
abbrev cc3_stg0_0 : Ref sig .tc := ⟨.smem, 0, rfl⟩
abbrev cc3_stg1_0 : Ref sig .tc := ⟨.smem, 1, rfl⟩
abbrev cc4_stg0_0 : Ref sig .tc := ⟨.smem, 2, rfl⟩
abbrev cc4_stg1_0 : Ref sig .tc := ⟨.smem, 3, rfl⟩
abbrev cc5_stg0_0 : Ref sig .tc := ⟨.smem, 4, rfl⟩
abbrev cc5_stg1_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc3_sem0_0 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc4_sem4_0 : DmaSem sig := 35
abbrev cc4_sem4_1 : DmaSem sig := 36
abbrev cc5_sem0_0 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem3_1 : DmaSem sig := 42
abbrev cc5_sem4_0 : DmaSem sig := 43
abbrev cc5_sem4_1 : DmaSem sig := 44

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32_25 : BitVec 32 := 0#32
  let v77 : BitVec 1 := Scalar.cmpi .eq arg0 c0_i32_25
  let v78 : BitVec 32 := Scalar.extui v77
  let c0_i32_26 : BitVec 32 := 0#32
  let v79 : BitVec 1 := Scalar.cmpi .ne v78 c0_i32_26
  v79

def k0_cond3 (i : grid0.Coords) : BitVec 1 :=
  let arg0 : BitVec 32 := BitVec.ofNat 32 (i 0).val
  let c23_i32_29 : BitVec 32 := 23#32
  let v83 : BitVec 1 := Scalar.cmpi .eq arg0 c23_i32_29
  let v84 : BitVec 32 := Scalar.extui v83
  let c0_i32_30 : BitVec 32 := 0#32
  let v85 : BitVec 1 := Scalar.cmpi .ne v84 c0_i32_30
  v85

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![16], ![false]⟩

def k1_cond1 (i : grid1.Coords) : BitVec 1 :=
  let arg0 : BitVec 32 := BitVec.ofNat 32 (i 0).val
  let c0_i32_25 : BitVec 32 := 0#32
  let v75 : BitVec 1 := Scalar.cmpi .eq arg0 c0_i32_25
  let v76 : BitVec 32 := Scalar.extui v75
  let c0_i32_26 : BitVec 32 := 0#32
  let v77 : BitVec 1 := Scalar.cmpi .ne v76 c0_i32_26
  v77

def k1_cond3 (i : grid1.Coords) : BitVec 1 :=
  let arg0 : BitVec 32 := BitVec.ofNat 32 (i 0).val
  let c15_i32 : BitVec 32 := 15#32
  let v81 : BitVec 1 := Scalar.cmpi .eq arg0 c15_i32
  let v82 : BitVec 32 := Scalar.extui v81
  let c0_i32_29 : BitVec 32 := 0#32
  let v83 : BitVec 1 := Scalar.cmpi .ne v82 c0_i32_29
  v83

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x8192 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![48], ![false]⟩

def k2_cond1 (i : grid2.Coords) : BitVec 1 :=
  let arg0 : BitVec 32 := BitVec.ofNat 32 (i 0).val
  let c0_i32_25 : BitVec 32 := 0#32
  let v77 : BitVec 1 := Scalar.cmpi .eq arg0 c0_i32_25
  let v78 : BitVec 32 := Scalar.extui v77
  let c0_i32_26 : BitVec 32 := 0#32
  let v79 : BitVec 1 := Scalar.cmpi .ne v78 c0_i32_26
  v79

def k2_cond3 (i : grid2.Coords) : BitVec 1 :=
  let arg0 : BitVec 32 := BitVec.ofNat 32 (i 0).val
  let c47_i32 : BitVec 32 := 47#32
  let v83 : BitVec 1 := Scalar.cmpi .eq arg0 c47_i32
  let v84 : BitVec 32 := Scalar.extui v83
  let c0_i32_29 : BitVec 32 := 0#32
  let v85 : BitVec 1 := Scalar.cmpi .ne v84 c0_i32_29
  v85

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x8192 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x8192 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨2, ![12, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .smem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .smem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1024x4096 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S4096x1024 .fp8e4m3 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![12, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .smem S1x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 1 → Memref sig .tc .smem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1024x8192 .fp8e5m2 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x8192 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x1024 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨3, ![4, 4, 6], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .smem S1x1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false, false]

abbrev stage5_1 : Fin 1 → Memref sig .tc .smem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false, false]

abbrev stage5_2 : Fin 2 → Memref sig .tc .vmem S2048x1024 .fp8e4m3 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, true]

abbrev stage5_3 : Fin 2 → Memref sig .tc .vmem S2048x2048 .fp8e5m2 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true, true]

abbrev stage5_4 : Fin 2 → Memref sig .tc .vmem S1024x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]
-- ==== ReferenceIdeal.lean ====
abbrev S4x3072x4096 : Shape := ⟨3, ![4, 3072, 4096]⟩
abbrev S4096x8192 : Shape := ⟨2, ![4096, 8192]⟩
abbrev S4x3072x8192 : Shape := ⟨3, ![4, 3072, 8192]⟩
abbrev S16 : Shape := ⟨1, ![16]⟩
abbrev S_ : Shape := ⟨0, ![]⟩
abbrev S15 : Shape := ⟨1, ![15]⟩
abbrev S1 : Shape := ⟨1, ![1]⟩

abbrev nBuf : Space → Nat
  | .hbm => 171
  | .vmem => 9
  | .smem => 0
  | _ => 0

abbrev hbmTy0_0 (i : Nat) : BufTy := match i % 128 with
  | 0 => ⟨S4x3072x4096, .bf16⟩
  | 1 => ⟨S4096x8192, .f32⟩
  | 2 => ⟨S4x3072x8192, .bf16⟩
  | 3 => ⟨S16, .f32⟩
  | 4 => ⟨S16, .f32⟩
  | 5 => ⟨S16, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .i1⟩
  | 13 => ⟨S_, .f32⟩
  | 14 => ⟨S_, .i1⟩
  | 15 => ⟨S_, .i1⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4x3072x4096, .f32⟩
  | 33 => ⟨S_, .f32⟩
  | 34 => ⟨S_, .f32⟩
  | 35 => ⟨S_, .f32⟩
  | 36 => ⟨S4x3072x4096, .f32⟩
  | 37 => ⟨S4x3072x4096, .f32⟩
  | 38 => ⟨S_, .f32⟩
  | 39 => ⟨S_, .f32⟩
  | 40 => ⟨S_, .f32⟩
  | 41 => ⟨S4x3072x4096, .f32⟩
  | 42 => ⟨S4x3072x4096, .f32⟩
  | 43 => ⟨S_, .f32⟩
  | 44 => ⟨S4x3072x4096, .f32⟩
  | 45 => ⟨S4x3072x4096, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .i1⟩
  | 55 => ⟨S_, .f32⟩
  | 56 => ⟨S_, .i1⟩
  | 57 => ⟨S_, .i1⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S4096x8192, .f32⟩
  | 78 => ⟨S4096x8192, .f32⟩
  | 79 => ⟨S_, .f32⟩
  | 80 => ⟨S_, .f32⟩
  | 81 => ⟨S_, .f32⟩
  | 82 => ⟨S4096x8192, .f32⟩
  | 83 => ⟨S4096x8192, .f32⟩
  | 84 => ⟨S_, .f32⟩
  | 85 => ⟨S4096x8192, .f32⟩
  | 86 => ⟨S4096x8192, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .i1⟩
  | 98 => ⟨S_, .i1⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S4x3072x8192, .f32⟩
  | 116 => ⟨S_, .f32⟩
  | 117 => ⟨S_, .f32⟩
  | 118 => ⟨S_, .f32⟩
  | 119 => ⟨S4x3072x8192, .f32⟩
  | 120 => ⟨S4x3072x8192, .f32⟩
  | 121 => ⟨S_, .f32⟩
  | 122 => ⟨S_, .f32⟩
  | 123 => ⟨S_, .f32⟩
  | 124 => ⟨S4x3072x8192, .f32⟩
  | 125 => ⟨S4x3072x8192, .f32⟩
  | 126 => ⟨S_, .f32⟩
  | 127 => ⟨S4x3072x8192, .f32⟩
  | _ => ⟨S4x3072x4096, .bf16⟩

abbrev hbmTy0_1 (i : Nat) : BufTy := match i % 128 with
  | 0 => ⟨S4x3072x8192, .f32⟩
  | 1 => ⟨S_, .f32⟩
  | 2 => ⟨S_, .f32⟩
  | 3 => ⟨S4x3072x4096, .fp8e4m3⟩
  | 4 => ⟨S4096x8192, .fp8e4m3⟩
  | 5 => ⟨S4x3072x8192, .fp8e5m2⟩
  | 6 => ⟨S4x3072x4096, .f32⟩
  | 7 => ⟨S4096x8192, .f32⟩
  | 8 => ⟨S4x3072x8192, .f32⟩
  | 9 => ⟨S4x3072x8192, .f32⟩
  | 10 => ⟨S_, .f32⟩
  | 11 => ⟨S4x3072x8192, .f32⟩
  | 12 => ⟨S4x3072x8192, .f32⟩
  | 13 => ⟨S4x3072x8192, .bf16⟩
  | 14 => ⟨S4x3072x4096, .f32⟩
  | 15 => ⟨S_, .f32⟩
  | 16 => ⟨S4x3072x4096, .f32⟩
  | 17 => ⟨S4x3072x4096, .f32⟩
  | 18 => ⟨S4x3072x4096, .bf16⟩
  | 19 => ⟨S4096x8192, .f32⟩
  | 20 => ⟨S_, .f32⟩
  | 21 => ⟨S4096x8192, .f32⟩
  | 22 => ⟨S4096x8192, .f32⟩
  | 23 => ⟨S4x3072x4096, .f32⟩
  | 24 => ⟨S4x3072x4096, .f32⟩
  | 25 => ⟨S_, .f32⟩
  | 26 => ⟨S_, .f32⟩
  | 27 => ⟨S15, .f32⟩
  | 28 => ⟨S1, .f32⟩
  | 29 => ⟨S16, .f32⟩
  | 30 => ⟨S4096x8192, .f32⟩
  | 31 => ⟨S_, .f32⟩
  | 32 => ⟨S_, .f32⟩
  | 33 => ⟨S15, .f32⟩
  | 34 => ⟨S1, .f32⟩
  | 35 => ⟨S16, .f32⟩
  | 36 => ⟨S4x3072x8192, .f32⟩
  | 37 => ⟨S4x3072x8192, .f32⟩
  | 38 => ⟨S_, .f32⟩
  | 39 => ⟨S_, .f32⟩
  | 40 => ⟨S15, .f32⟩
  | 41 => ⟨S1, .f32⟩
  | 42 => ⟨S16, .f32⟩
  | _ => ⟨S4x3072x4096, .bf16⟩

abbrev hbmTy (i : Nat) : BufTy := match i / 128 with
  | 0 => hbmTy0_0 i
  | 1 => hbmTy0_1 i
  | _ => ⟨S4x3072x4096, .bf16⟩

abbrev bufTy : (tb : Table) → Fin (tcTables nBuf tb) → BufTy
  | .hbm, ⟨i, _⟩ => hbmTy i
  | .local _ .vmem, ⟨0, _⟩ => ⟨S4x3072x4096, .f32⟩
  | .local _ .vmem, ⟨1, _⟩ => ⟨S4096x8192, .f32⟩
  | .local _ .vmem, ⟨2, _⟩ => ⟨S4x3072x8192, .f32⟩
  | .local _ .vmem, ⟨3, _⟩ => ⟨S4x3072x4096, .fp8e4m3⟩
  | .local _ .vmem, ⟨4, _⟩ => ⟨S4096x8192, .fp8e4m3⟩
  | .local _ .vmem, ⟨5, _⟩ => ⟨S4x3072x8192, .fp8e5m2⟩
  | .local _ .vmem, ⟨6, _⟩ => ⟨S4x3072x4096, .f32⟩
  | .local _ .vmem, ⟨7, _⟩ => ⟨S4096x8192, .f32⟩
  | .local _ .vmem, ⟨8, _⟩ => ⟨S4x3072x8192, .f32⟩
  | _, _ => ⟨S4x3072x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_v10 : Ref sig .tc := ⟨.hbm, 22, rfl⟩
abbrev main_cst_5 : Ref sig .tc := ⟨.hbm, 23, rfl⟩
abbrev main_cst_6 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v11 : Ref sig .tc := ⟨.hbm, 28, rfl⟩
abbrev main_cst_7 : Ref sig .tc := ⟨.hbm, 29, rfl⟩
abbrev main_call1_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_8 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_9 : Ref sig .tc := ⟨.hbm, 38, rfl⟩
abbrev main_cst_10 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v18 : Ref sig .tc := ⟨.hbm, 45, rfl⟩
abbrev main_cst_11 : Ref sig .tc := ⟨.hbm, 46, rfl⟩
abbrev main_v19 : Ref sig .tc := ⟨.hbm, 47, rfl⟩
abbrev main_cst_12 : Ref sig .tc := ⟨.hbm, 48, rfl⟩
abbrev main_v20 : Ref sig .tc := ⟨.hbm, 49, rfl⟩
abbrev main_cst_13 : Ref sig .tc := ⟨.hbm, 50, rfl⟩
abbrev main_v21 : Ref sig .tc := ⟨.hbm, 51, rfl⟩
abbrev main_v22 : Ref sig .tc := ⟨.hbm, 52, rfl⟩
abbrev main_cst_14 : Ref sig .tc := ⟨.hbm, 53, rfl⟩
abbrev main_v23 : Ref sig .tc := ⟨.hbm, 54, rfl⟩
abbrev main_cst_15 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_16 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_17 : Ref sig .tc := ⟨.hbm, 63, rfl⟩
abbrev main_v30 : Ref sig .tc := ⟨.hbm, 64, rfl⟩
abbrev main_cst_18 : Ref sig .tc := ⟨.hbm, 65, rfl⟩
abbrev main_cst_19 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v31 : Ref sig .tc := ⟨.hbm, 70, rfl⟩
abbrev main_cst_20 : Ref sig .tc := ⟨.hbm, 71, rfl⟩
abbrev main_call4_v0 : Ref sig .tc := ⟨.hbm, 72, rfl⟩
abbrev main_v32 : Ref sig .tc := ⟨.hbm, 73, rfl⟩
abbrev main_v33 : Ref sig .tc := ⟨.hbm, 74, rfl⟩
abbrev main_cst_21 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_22 : Ref sig .tc := ⟨.hbm, 79, rfl⟩
abbrev main_cst_23 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v37 : Ref sig .tc := ⟨.hbm, 86, rfl⟩
abbrev main_cst_24 : Ref sig .tc := ⟨.hbm, 87, rfl⟩
abbrev main_v38 : Ref sig .tc := ⟨.hbm, 88, rfl⟩
abbrev main_cst_25 : Ref sig .tc := ⟨.hbm, 89, rfl⟩
abbrev main_v39 : Ref sig .tc := ⟨.hbm, 90, rfl⟩
abbrev main_cst_26 : Ref sig .tc := ⟨.hbm, 91, rfl⟩
abbrev main_v40 : Ref sig .tc := ⟨.hbm, 92, rfl⟩
abbrev main_v41 : Ref sig .tc := ⟨.hbm, 93, rfl⟩
abbrev main_cst_27 : Ref sig .tc := ⟨.hbm, 94, rfl⟩
abbrev main_v42 : Ref sig .tc := ⟨.hbm, 95, rfl⟩
abbrev main_cst_28 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_cst_29 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_cst_30 : Ref sig .tc := ⟨.hbm, 104, rfl⟩
abbrev main_v49 : Ref sig .tc := ⟨.hbm, 105, rfl⟩
abbrev main_cst_31 : Ref sig .tc := ⟨.hbm, 106, rfl⟩
abbrev main_cst_32 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v50 : Ref sig .tc := ⟨.hbm, 111, rfl⟩
abbrev main_cst_33 : Ref sig .tc := ⟨.hbm, 112, rfl⟩
abbrev main_call7_v0 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_34 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_cst_35 : Ref sig .tc := ⟨.hbm, 121, rfl⟩
abbrev main_cst_36 : Ref sig .tc := ⟨.hbm, 122, rfl⟩
abbrev main_call8_v0 : Ref sig .tc := ⟨.hbm, 123, rfl⟩
abbrev main_call8_v1 : Ref sig .tc := ⟨.hbm, 124, rfl⟩
abbrev main_call8_v2 : Ref sig .tc := ⟨.hbm, 125, rfl⟩
abbrev main_call8_v3 : Ref sig .tc := ⟨.hbm, 126, rfl⟩
abbrev main_call8_v4 : Ref sig .tc := ⟨.hbm, 127, rfl⟩
abbrev main_v57 : Ref sig .tc := ⟨.hbm, 128, rfl⟩
abbrev main_cst_37 : Ref sig .tc := ⟨.hbm, 129, rfl⟩
abbrev main_v58 : Ref sig .tc := ⟨.hbm, 130, rfl⟩
abbrev main_v59_0 : Ref sig .tc := ⟨.hbm, 131, rfl⟩
abbrev main_v59_1 : Ref sig .tc := ⟨.hbm, 132, rfl⟩
abbrev main_v59_2 : Ref sig .tc := ⟨.hbm, 133, rfl⟩
abbrev main_v59_3 : Ref sig .tc := ⟨.hbm, 134, rfl⟩
abbrev main_v59_4 : Ref sig .tc := ⟨.hbm, 135, rfl⟩
abbrev main_v59_5 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_cst_38 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_39 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_cst_40 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4x3072x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x3072x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x3072x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072x8192 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3072x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x3072x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Whole.lean ====
/-
  Loads and stores of a whole block at once.

  Every load and store of these kernels goes through the rectangle that is the whole block. A load through it
  reads the block, and after a store through it the block is the stored value.
-/
module

public import Idealize.ShloMosaic.Lib.Pipeline.FrameBody
public import Idealize.ShloMosaic.Lib.Pipeline.Value

@[expose] public section

noncomputable section

namespace Cert.Proof

open Idealize.ShloMosaic

variable {sig : RefSig} {κ : Kind} {sp : Space} {S : Shape} {e : EltTy} {Val : EltTy → Type}

/-- A load of the whole block reads the block. -/
theorem load_whole (v : View sig κ sp S e) {off : Fin S.rank → Nat} (h : off = fun _ => 0)
    (inb : ∀ a, off a + S.size a ≤ S.size a) (f : v.ty.Contents Val) :
    v.readAt Val (Rect.unit off S.size inb).toLoadRect f = v.read Val f := by
  rw [View.readAt_eq_ld, View.ld_unit_zero h]

/-- After a store of the whole block, whatever was stored before, the block is the stored value. -/
theorem read_store [∀ e, Nonempty (Val e)] (v : View sig κ sp S e) {off : Fin S.rank → Nat} (h : off = fun _ => 0)
    (inb : ∀ a, off a + S.size a ≤ S.size a) (f : v.ty.Contents Val) (w : S.Idx → Val e) (L : List (View.Piece Val S e)) :
    v.read Val (v.writes Val f ((⟨Rect.unit off S.size inb, w⟩ : View.Piece Val S e) :: L)) = w := by
  rw [View.read_writes_eq_canon, View.canon_cons_unit_zero h]
  exact fun y => ⟨_, List.mem_cons_self, View.mem_set_unit_zero h inb y⟩

/-- A load of the whole block after a store of the whole block reads the stored value. -/
theorem load_store [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The offset of the whole block of a matrix. -/
theorem off2 : (![0, 0] : Fin 2 → Nat) = fun _ => 0 := by decide

end Cert.Proof
end
-- ==== Proof.Cell.lean ====
/-
  What the six regions share: the one index of a `1 x 1` array, and a window's block.
-/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp
public import Idealize.ShloMosaic.Lib.Pipeline.RegionArraysS
public import proofs.«01_k».proof.Proof.Whole

@[expose] public section

noncomputable section

namespace Cert.KernelIdeal

open Idealize.ShloMosaic

/-- The one index of a `1 x 1` array. -/
def o11 : S1x1.Idx := Shape.Idx.first (Nat.one_pos)

end Cert.KernelIdeal
end
-- ==== Proof.Qx.lean ====
/-
  The region that quantises the activations: what its body leaves, point by point.

  Every point turns one row block into codes. The first point also stores the scale, and the running absolute maximum
  is kept in a scratch buffer from point to point; the last point reads it and stores the new history. In between the
  two small outputs are not touched.
-/
module

public import proofs.«01_k».proof.Proof.Cell

@[expose] public section

set_option maxRecDepth 16384

noncomputable section

namespace Cert.KernelIdeal.Qx

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point, -/
abbrev first (i : grid0.Coords) : Prop := k0_cond1 i = 1#1
/-- a later point, -/
abbrev later (i : grid0.Coords) : Prop := (Scalar.cmpi .ne (Scalar.extui (Scalar.cmpi .sgt (BitVec.ofNat 32 (i 0).val) 0#32)) 0#32) = 1#1
/-- and the last point. -/
abbrev last (i : grid0.Coords) : Prop := k0_cond3 i = 1#1

theorem first_iff (t : Fin cfg0.N) : first (grid0.coords t) ↔ t.val = 0 :=
  (fun t => by
    have ht : t.val < 24 := Nat.lt_of_lt_of_eq t.isLt N_0
    have e0 : (grid0.coords t 0).val = t.val / 1 % 24 := Pipeline.Grid.coords_val t 0 (by decide) rfl
    simp only [first, k0_cond1, e0]
    word_cmp
   : ∀ t : Fin grid0.N, first (grid0.coords t) ↔ t.val = 0) t

theorem later_iff (t : Fin cfg0.N) : later (grid0.coords t) ↔ ¬ first (grid0.coords t) :=
  (fun t => by
    rw [first_iff]
    have ht : t.val < 24 := Nat.lt_of_lt_of_eq t.isLt N_0
    have e0 : (grid0.coords t 0).val = t.val / 1 % 24 := Pipeline.Grid.coords_val t 0 (by decide) rfl
    simp only [later, e0]
    word_cmp
   : ∀ t : Fin grid0.N, later (grid0.coords t) ↔ ¬ first (grid0.coords t)) t

theorem last_iff (t : Fin cfg0.N) : last (grid0.coords t) ↔ t.val = 23 :=
  (fun t => by
    have ht : t.val < 24 := Nat.lt_of_lt_of_eq t.isLt N_0
    have e0 : (grid0.coords t 0).val = t.val / 1 % 24 := Pipeline.Grid.coords_val t 0 (by decide) rfl
    simp only [last, k0_cond3, e0]
    word_cmp
   : ∀ t : Fin grid0.N, last (grid0.coords t) ↔ t.val = 23) t

/-- The codes of a row block, from the history, -/
def codes (h : Vec F S1x16 .f32) (x : Vec F S512x4096 .bf16) : Vec F S512x4096 .fp8e4m3 :=
  k0_pay10 (k0_pay4 h) (k0_pay6 h) (k0_pay7 h) 0#32 x
/-- the scale, -/
def scale (h : Vec F S1x16 .f32) : Vec F S1x1 .f32 :=
  k0_pay13 (k0_pay4 h) (k0_pay6 h) (k0_pay7 h) 0#32
/-- the running absolute maximum after the block, from the one before it, -/
def amax (a : Prop) [Decidable a] (x : Vec F S512x4096 .bf16) (m : Vec F S8x4096 .f32) : Vec F S8x4096 .f32 :=
  if a then k0_pay12 x else k0_pay1 (k0_pay11 x) m
/-- and the new history. -/
def hist (h : Vec F S1x16 .f32) (m : Vec F S8x4096 .f32) : Vec F S1x16 .f32 :=
  k0_pay2 (k0_pay3 h) m

set_option maxHeartbeats 8000000 in
/-- One run of the body on any buffers. -/
theorem run (c : Dev nD) (i : grid0.Coords) (arg1 : Memref sig .tc .vmem S1x16 .f32) (harg1 : arg1.IsWhole) (arg2 : Memref sig .tc .vmem S512x4096 .bf16) (harg2 : arg2.IsWhole) (arg3 : Memref sig .tc .vmem S512x4096 .fp8e4m3) (harg3 : arg3.IsWhole) (arg4 : Memref sig .tc .vmem S1x1 .f32) (harg4 : arg4.IsWhole) (arg5 : Memref sig .tc .vmem S1x16 .f32) (harg5 : arg5.IsWhole) (arg6 : Memref sig .tc .vmem S8x4096 .f32) (harg6 : arg6.IsWhole)
    (h12 : later i ↔ ¬ first i)
    (h : Vec F S1x16 .f32) (x : Vec F S512x4096 .bf16) (s : Vec F S1x1 .f32) (n : Vec F S1x16 .f32) (m : Vec F S8x4096 .f32) (E : Set ℕ) (K : PUnit → sProp 𝕄) :
        iprop(owns (c : Thread nD τ) arg1 fullShare h ∗ owns (c : Thread nD τ) arg2 fullShare x ∗ (∃ d, owns (c : Thread nD τ) arg3 fullShare d)
            ∗ owns (c : Thread nD τ) arg4 fullShare s ∗ owns (c : Thread nD τ) arg5 fullShare n ∗ owns (c : Thread nD τ) arg6 fullShare m
            ∗ (iprop(owns (c : Thread nD τ) arg1 fullShare h ∗ owns (c : Thread nD τ) arg2 fullShare x ∗ owns (c : Thread nD τ) arg3 fullShare (codes h x)
                ∗ owns (c : Thread nD τ) arg4 fullShare (if first i then scale h else s)
                ∗ owns (c : Thread nD τ) arg5 fullShare (if last i then hist h (amax (first i) x m) else n)
                ∗ owns (c : Thread nD τ) arg6 fullShare (amax (first i) x m)) -∗ K ⟨⟩))
          ⊢ wp frame (wpE (defs₀ (F := F)) Variants.none c none) E (cc0_quantise i arg1 harg1 arg2 harg2 arg3 harg3 arg4 harg4 arg5 harg5 arg6 harg6) K := by
  simp only [cc0_quantise_eq_skeleton]; unfold cc0_quantise_skel
  simp only [k0_part1_eq_skeleton, k0_part2_eq_skeleton]; unfold k0_part1_skel k0_part2_skel
  unfold owns amax codes scale hist
  by_cases hc1 : first i <;> by_cases hc3 : last i <;>
  · have hc2 := h12
    first | replace hc2 := h12.mpr hc1 | replace hc2 : ¬ later i := fun h => h12.mp h hc1
    first | rw [if_pos hc1] | rw [if_neg hc1]
    first | rw [if_pos hc3] | rw [if_neg hc3]
    first | rw [if_pos hc1] | rw [if_neg hc1] | skip
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg1.eq_unread hf0; obtain rfl := harg2.eq_unread hf1
    obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      first
        | (try unfold run.sl.H5_1
           try unfold run.sl.H5_1_1
           rw [read_store _ off2]
           try unfold run.sl.v86
           try unfold run.sl.v86_1
           try unfold run.sl.v86_2
           try unfold run.sl.H5_1
           try unfold run.sl.H5_1_1
           repeat rw [load_store _ off2]
           repeat rw [load_whole _ off2]
           try rw [hf0]
           try rw [hf1]
           try rw [hf5])
    isplitl [H3]
    · iexists _; isplitr
      swap; · iexact H3
      ipureintro
      first
        | (try unfold run.sl.H5_1
           try unfold run.sl.H5_1_1
           rw [read_store _ off2]
           try unfold run.sl.v86
           try unfold run.sl.v86_1
           try unfold run.sl.v86_2
           try unfold run.sl.H5_1
           try unfold run.sl.H5_1_1
           repeat rw [load_store _ off2]
           repeat rw [load_whole _ off2]
           try rw [hf0]
           try rw [hf1]
           try rw [hf5])
        | exact hf3
    isplitl [H4]
    · iexists _; isplitr
      swap; · iexact H4
      ipureintro
      first
        | (try unfold run.sl.H5_1
           try unfold run.sl.H5_1_1
           rw [read_store _ off2]
           try unfold run.sl.v86
           try unfold run.sl.v86_1
           try unfold run.sl.v86_2
           try unfold run.sl.H5_1
           try unfold run.sl.H5_1_1
           repeat rw [load_store _ off2]
           repeat rw [load_whole _ off2]
           try rw [hf0]
           try rw [hf1]
           try rw [hf5])
        | exact hf4
    iexists _; isplitr
    swap; · iexact H5
    ipureintro
    first
      | (try unfold run.sl.H5_1
         try unfold run.sl.H5_1_1
         rw [read_store _ off2]
         try unfold run.sl.v86
         try unfold run.sl.v86_1
         try unfold run.sl.v86_2
         try unfold run.sl.H5_1
         try unfold run.sl.H5_1_1
         repeat rw [load_store _ off2]
         repeat rw [load_whole _ off2]
         try rw [hf0]
         try rw [hf1]
         try rw [hf5])

end Cert.KernelIdeal.Qx
end
-- ==== Proof.Idle.lean ====
/-
  What a pipeline asks of an output buffer the body may leave alone: three ways to answer.
-/
module

public import Idealize.ShloMosaic.Lib.Pipeline.FrameBody
public import Idealize.ShloMosaic.Lib.Pipeline.TableIdle

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {nD : Nat} {τ : Topo} {sig : RefSig} {Val : EltTy → Type} {Λ₀ : Labels}
variable {Ix : Type} [DecidableEq Ix] {Name : Type} [DecidableEq Name] {U : Type} [URA U] {Lvl : Type}
variable {cfg : Pipeline.Cfg sig Λ₀} {c : Dev nD} (dat : Pipeline.Dat τ Val Ix Name U Lvl cfg c)

local notation "𝕄" => MT nD τ sig Ix Val Name U Lvl

/-- The buffer at what the region's data says, where the window is not idle. -/
theorem leaves_after (w : Fin cfg.W) (t : Fin cfg.N) (h : cfg.idle w (cfg.grid.coords t) = false ∨ (cfg.win w).flush t = true) :
    (owns (c : Thread nD τ) ((cfg.win w).stage (cfg.slots t w)) fullShare (dat.after w t) : sProp 𝕄) ⊢ dat.leavesExact w t := by
  unfold Dat.leavesExact
  rcases h with h | h
  · rw [h]
  · rw [h]; cases cfg.idle w (cfg.grid.coords t) <;> exact .rfl

/-- The buffer as found, where the window is idle and not written back. -/
theorem leaves_idle (w : Fin cfg.W) (t : Fin cfg.N) (d) (hi : cfg.idle w (cfg.grid.coords t) = true) (hf : (cfg.win w).flush t = false) :
    (owns (c : Thread nD τ) ((cfg.win w).stage (cfg.slots t w)) fullShare (dat.before w t d) : sProp 𝕄) ⊢ dat.leavesExact w t := by
  rw [Dat.leavesExact_idle dat w t hi hf]
  iintro H; iexists d; iexact H

/-- The buffer as found, where that is what the data says. -/
theorem leaves_before (w : Fin cfg.W) (t : Fin cfg.N) (d) (h : dat.before w t d = dat.after w t) :
    (owns (c : Thread nD τ) ((cfg.win w).stage (cfg.slots t w)) fullShare (dat.before w t d) : sProp 𝕄) ⊢ dat.leavesExact w t := by
  cases hi : cfg.idle w (cfg.grid.coords t)
  · rw [h]; exact leaves_after dat w t (.inl hi)
  · cases hf : (cfg.win w).flush t
    · exact leaves_idle dat w t d hi hf
    · rw [h]; exact leaves_after dat w t (.inr hf)

end Cert.Proof
end
-- ==== Proof.QxRegion.lean ====
/-
  The region that quantises the activations, as a pipeline: what each buffer holds after each point.
-/
module

public import proofs.«01_k».proof.Proof.Qx
public import proofs.«01_k».proof.Proof.Idle

@[expose] public section

set_option maxRecDepth 16384

noncomputable section

namespace Cert.KernelIdeal.Qx

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w`'s array at point `t`, as the region finds the array. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The first point. -/
def t0 : Fin cfg0.N := ⟨0, by rw [show cfg0.N = 24 from N_0]; decide⟩

/-- The running absolute maximum after the point at position `n`. -/
def acc (c : Dev nD) : ℕ → Vec F S8x4096 .f32
  | 0 => k0_pay12 (iblk V c 1 t0)
  | n + 1 => if hn : n + 1 < cfg0.N then amax False (iblk V c 1 ⟨n + 1, hn⟩) (acc c n) else acc c n

theorem amax_congr {a b : Prop} [Decidable a] [Decidable b] (h : a ↔ b) (x : Vec F S512x4096 .bf16) (m : Vec F S8x4096 .f32) : amax a x m = amax b x m := by
  unfold amax; exact if_congr h rfl rfl

/-- The maximum after a point, from the scratch buffer's contents before it. -/
theorem acc_step (c : Dev nD) (t : Fin cfg0.N) (m : Vec F S8x4096 .f32) (hm : t.val ≠ 0 → m = acc V c (t.val - 1)) :
    amax (first (grid0.coords t)) (iblk V c 1 t) m = acc V c t.val := by
  rw [amax_congr (first_iff t)]
  obtain ⟨n, hn⟩ := t
  cases n with
  | zero => unfold amax; rw [if_pos rfl]; rfl
  | succ n =>
    rw [hm (Nat.succ_ne_zero n), acc, dif_pos hn]
    exact amax_congr (iff_of_false (Nat.succ_ne_zero n) id) _ _

/-- What the body leaves in each window's staging buffer. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => codes (iblk V c 0 t) (iblk V c 1 t)
    | ⟨3, _⟩ => scale (iblk V c 0 t0)
    | ⟨4, _⟩ => hist (iblk V c 0 t) (acc V c t.val)
  Φ t := iprop(∃ m, ⌜t.val ≠ 0 → m = acc V c (t.val - 1)⌝ ∗ owns (c : Thread nD τ) (Memref.whole cc0_scratch0) fullShare m
    ∗ Pipeline.scopedRestBut (Ix := Unit) (Name := ℕ) (U := UR sig nD τ) (Lvl := ℕ) (Val := Elt F) spec0 c [cc0_scratch0] ∗ ∃ r, prngReg c r)
  q _ := fullShare
  owed _ := 0

/-- The arrays the region enters with. -/
theorem A_eq (c : Dev nD) (w : Fin cfg0.W) : (dat V c).A w = V c (Proc.devRef .tc (Pipeline.arrRef spec0 w)) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = codes (iblk V c 0 t) (iblk V c 1 t) := by dsimp only [dat]
theorem after_3 (c : Dev nD) (t : Fin cfg0.N) : (dat V c).after 3 t = scale (iblk V c 0 t0) := by dsimp only [dat]
theorem after_4 (c : Dev nD) (t : Fin cfg0.N) : (dat V c).after 4 t = hist (iblk V c 0 t) (acc V c t.val) := by dsimp only [dat]

/-! Each input window holds its block when the body runs. -/

theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg0.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

theorem idle_3 (t : Fin cfg0.N) : cfg0.idle 3 (cfg0.grid.coords t) = true ↔ t.val ≠ 0 := by
  have h := first_iff t
  show (!(k0_cond1 (grid0.coords t) == 1#1)) = true ↔ _
  rw [Bool.not_eq_true', beq_eq_false_iff_ne]
  exact not_congr h

theorem idle_4 (t : Fin cfg0.N) : cfg0.idle 4 (cfg0.grid.coords t) = true ↔ t.val ≠ 23 := by
  have h := last_iff t
  show (!(k0_cond3 (grid0.coords t) == 1#1)) = true ↔ _
  rw [Bool.not_eq_true', beq_eq_false_iff_ne]
  exact not_congr h

/-- After the first point the scale's buffer has been written. -/
theorem fresh_3 : ∀ n, n ≠ 0 → n < cfg0.N → cfg0.fresh 3 n = false
  | 0, h, _ => absurd rfl h
  | n + 1, _, hn => by
    have hN : cfg0.N = 24 := N_0
    rw [Pipeline.Cfg.fresh_succ _ _ _ (Nat.lt_of_succ_lt hn)]
    have hf : (cfg0.win 3).flush ⟨n, Nat.lt_of_succ_lt hn⟩ = false := Bool.eq_false_iff.mpr fun hf => by
      have := (flush0_3 _).mp hf; dsimp only at this; omega
    rw [hf, Bool.false_or]
    by_cases h0 : n = 0
    · rw [Bool.eq_false_iff.mpr fun hi => (idle_3 ⟨n, Nat.lt_of_succ_lt hn⟩).mp hi h0, Bool.false_and]
    · rw [fresh_3 n h0 (Nat.lt_of_succ_lt hn), Bool.and_false]

/-- A later point finds the scale in its buffer. -/
theorem before_3 (c : Dev nD) (t : Fin cfg0.N) (h : t.val ≠ 0) (d) : (dat V c).before 3 t d = scale (iblk V c 0 t0) := by
  rw [Dat.before_out_traj (dat V c) 3 rfl (fun _ _ => rfl) (fun t _ _ _ => by rw [after_3, after_3]) t.val t rfl d,
    fresh_3 t.val h t.isLt, if_neg Bool.false_ne_true, after_3]

/-- What the scale's buffer holds after the body, as the pipeline asks for it. -/
theorem leaves_3 (c : Dev nD) (t : Fin cfg0.N) (d) :
    (owns (c : Thread nD τ) (st0_3 t) fullShare (if first (grid0.coords t) then scale (iblk V c 0 t) else (dat V c).before 3 t d) : sProp 𝕄)
      ⊢ (dat V c).leavesExact 3 t := by
  by_cases h : t.val = 0
  · rw [if_pos ((first_iff t).mpr h), show t = t0 from Fin.ext h, ← after_3 V c t0]
    exact leaves_after _ _ _ (.inl (Bool.eq_false_iff.mpr fun hi => (idle_3 t0).mp hi rfl))
  · rw [if_neg fun hf => h ((first_iff t).mp hf)]
    exact leaves_before _ _ _ _ ((before_3 V c t h d).trans (after_3 V c t).symm)

/-- What the history's buffer holds after the body, as the pipeline asks for it. -/
theorem leaves_4 (c : Dev nD) (t : Fin cfg0.N) (d) :
    (owns (c : Thread nD τ) (st0_4 t) fullShare (if last (grid0.coords t) then hist (iblk V c 0 t) (acc V c t.val) else (dat V c).before 4 t d) : sProp 𝕄)
      ⊢ (dat V c).leavesExact 4 t := by
  by_cases h : t.val = 23
  · rw [if_pos ((last_iff t).mpr h), ← after_4 V c t]
    exact leaves_after _ _ _ (.inl (Bool.eq_false_iff.mpr fun hi => (idle_4 t).mp hi h))
  · rw [if_neg fun hf => h ((last_iff t).mp hf)]
    have hN : t.val < 24 := lt_of_lt_of_eq t.isLt (show cfg0.N = 24 from N_0)
    exact Cert.Proof.leaves_idle _ _ _ _ ((idle_4 t).mpr h) (Bool.eq_false_iff.mpr fun hf => by have := (flush0_4 _).mp hf; omega)

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ (dat V c).leavesExact 3 t
    ∗ (dat V c).leavesExact 4 t)

/-- The scratch buffer after a point, from the buffer before it. -/
theorem scratch_step (c : Dev nD) (t : Fin cfg0.N) :
    (dat V c).Φ t.castSucc = iprop(∃ m, ⌜t.val ≠ 0 → m = acc V c (t.val - 1)⌝ ∗ owns (c : Thread nD τ) (Memref.whole cc0_scratch0) fullShare m
    ∗ Pipeline.scopedRestBut (Ix := Unit) (Name := ℕ) (U := UR sig nD τ) (Lvl := ℕ) (Val := Elt F) spec0 c [cc0_scratch0] ∗ ∃ r, prngReg c r) := rfl

theorem scratch_next (c : Dev nD) (t : Fin cfg0.N) :
    (dat V c).Φ t.succ = iprop(∃ m, ⌜t.val + 1 ≠ 0 → m = acc V c (t.val + 1 - 1)⌝ ∗ owns (c : Thread nD τ) (Memref.whole cc0_scratch0) fullShare m
    ∗ Pipeline.scopedRestBut (Ix := Unit) (Name := ℕ) (U := UR sig nD τ) (Lvl := ℕ) (Val := Elt F) spec0 c [cc0_scratch0] ∗ ∃ r, prngReg c r) := rfl

/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [scratch_step, scratch_next, show (dat V c).owesAt () t.succ = (dat V c).owesAt () t.castSucc from rfl,
    after_0, after_1, after_2]
  iintro ⟨⟨%m, %hm, Hm, HR⟩, Ho, ⟨%d0, H0⟩, ⟨%d1, H1⟩, ⟨%d2, H2⟩, ⟨%d3, H3⟩, ⟨%d4, H4⟩⟩
  iapply (run c (grid0.coords t) _ _ _ _ _ _ _ _ _ _ _ _ (later_iff t) (iblk V c 0 t) (iblk V c 1 t) ((dat V c).before 3 t d3) ((dat V c).before 4 t d4) m Set.univ _)
  isplitl [H0]; · iexact H0
  isplitl [H1]; · iexact H1
  isplitl [H2]; · iexists _; iexact H2
  isplitl [H3]; · iexact H3
  isplitl [H4]; · iexact H4
  isplitl [Hm]; · iexact Hm
  rw [acc_step V c t m hm]
  iintro ⟨H0, H1, H2, H3, H4, Hm⟩
  isplitl [Hm HR]
  · iexists _
    isplitr
    swap
    · isplitl [Hm]; · iexact Hm
      iexact HR
    ipureintro
    exact fun _ => rfl
  isplitl [Ho]; · iexact Ho
  isplitl [H0]; · iexact H0
  isplitl [H1]; · iexact H1
  isplitl [H2]; · iexact H2
  isplitl [H3]
  · iapply (leaves_3 V c t d3); iexact H3
  iapply (leaves_4 V c t d4); iexact H4

/-- The body table's row is the body. -/
theorem row (t : Fin cfg0.N) :
    defs₀ (F := F) .tc cfg0.body (cfg0.bodyArgs t (cfg0.slots t)) = bodyAt0 t := by
  unfold defs₀; rw [Defs.onTc_tc]

/-- The body at every point takes the staging buffers from what the region holds there to what it leaves. -/
theorem body_obligation (c : Dev nD) : BodyObligation (dat (F := F) V c) (defs₀ (F := F)) Variants.none () Set.univ := fun t => by
  rw [bigSep_W0, bigSep_W0, row]
  exact triple_restated (sound_body V c t) rfl .rfl fun _ => .rfl

theorem scratch_whole (c : Dev nD) (m : Vec F S8x4096 .f32) :
    (owns (c : Thread nD τ) (Memref.whole cc0_scratch0) fullShare m : sProp 𝕄)
      ⊢ iprop(∃ f : Buf (Elt F) ((c : Thread nD τ).loc cc0_scratch0), ((c : Thread nD τ).loc cc0_scratch0) ↦{fullShare} f) := by
  rw [owns_whole_eq]
  iintro ⟨%f, -, Hf⟩
  iexists f; iexact Hf

/-- The region's scratch at its entry, -/
theorem enter (c : Dev nD) : iprop(Pipeline.scopedRest (Ix := Unit) (Name := ℕ) (U := UR sig nD τ) (Lvl := ℕ) (Val := Elt F) spec0 c ∗ ∃ r, prngReg c r)
    ⊢ (dat (F := F) V c).Φ 0 := by
  rw [scopedRest0_split]
  show _ ⊢ iprop(∃ m, ⌜(0 : ℕ) ≠ 0 → m = acc V c (0 - 1)⌝ ∗ owns (c : Thread nD τ) (Memref.whole cc0_scratch0) fullShare m
    ∗ Pipeline.scopedRestBut (Ix := Unit) (Name := ℕ) (U := UR sig nD τ) (Lvl := ℕ) (Val := Elt F) spec0 c [cc0_scratch0] ∗ ∃ r, prngReg c r)
  iintro ⟨⟨⟨%f, Hf⟩, HR⟩, Hp⟩
  iexists f
  isplitr
  · ipureintro; exact fun h => absurd rfl h
  isplitl [Hf]
  · rw [owns_whole_eq]
    iexists f; isplitr; · ipureintro; rfl
    iexact Hf
  isplitl [HR]; · iexact HR
  iexact Hp

/-- and at its end. -/
theorem leave (c : Dev nD) (t : Fin (cfg0.N + 1)) :
    (dat (F := F) V c).Φ t ⊢ iprop(Pipeline.scopedRest (Ix := Unit) (Name := ℕ) (U := UR sig nD τ) (Lvl := ℕ) (Val := Elt F) spec0 c ∗ ∃ r, prngReg c r) := by
  rw [scopedRest0_split]
  show iprop(∃ m, ⌜t.val ≠ 0 → m = acc V c (t.val - 1)⌝ ∗ owns (c : Thread nD τ) (Memref.whole cc0_scratch0) fullShare m
    ∗ Pipeline.scopedRestBut (Ix := Unit) (Name := ℕ) (U := UR sig nD τ) (Lvl := ℕ) (Val := Elt F) spec0 c [cc0_scratch0] ∗ ∃ r, prngReg c r) ⊢ _
  iintro ⟨%m, %hm, Hm, HR, Hp⟩
  isplitl [Hm HR]
  · isplitl [Hm]
    · iapply (scratch_whole c m); iexact Hm
    iexact HR
  iexact Hp

end Cert.KernelIdeal.Qx
end
-- ==== Proof.Qw.lean ====
/-
  The region that quantises the weights: what its body leaves, point by point.

  Every point turns one row block into codes. The first point also stores the scale, and the running absolute maximum
  is kept in a scratch buffer from point to point; the last point reads it and stores the new history. In between the
  two small outputs are not touched.
-/
module

public import proofs.«01_k».proof.Proof.Cell

@[expose] public section

set_option maxRecDepth 16384

noncomputable section

namespace Cert.KernelIdeal.Qw

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point, -/
abbrev first (i : grid1.Coords) : Prop := k1_cond1 i = 1#1
/-- a later point, -/
abbrev later (i : grid1.Coords) : Prop := (Scalar.cmpi .ne (Scalar.extui (Scalar.cmpi .sgt (BitVec.ofNat 32 (i 0).val) 0#32)) 0#32) = 1#1
/-- and the last point. -/
abbrev last (i : grid1.Coords) : Prop := k1_cond3 i = 1#1

theorem first_iff (t : Fin cfg1.N) : first (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    simp only [first, k1_cond1, e0]
    word_cmp
   : ∀ t : Fin grid1.N, first (grid1.coords t) ↔ t.val = 0) t

theorem later_iff (t : Fin cfg1.N) : later (grid1.coords t) ↔ ¬ first (grid1.coords t) :=
  (fun t => by
    rw [first_iff]
    have ht : t.val < 16 := Nat.lt_of_lt_of_eq t.isLt N_1
    have e0 : (grid1.coords t 0).val = t.val / 1 % 16 := Pipeline.Grid.coords_val t 0 (by decide) rfl
    simp only [later, e0]
    word_cmp
   : ∀ t : Fin grid1.N, later (grid1.coords t) ↔ ¬ first (grid1.coords t)) t

theorem last_iff (t : Fin cfg1.N) : last (grid1.coords t) ↔ t.val = 15 :=
  (fun t => by
    have ht : t.val < 16 := Nat.lt_of_lt_of_eq t.isLt N_1
    have e0 : (grid1.coords t 0).val = t.val / 1 % 16 := Pipeline.Grid.coords_val t 0 (by decide) rfl
    simp only [last, k1_cond3, e0]
    word_cmp
   : ∀ t : Fin grid1.N, last (grid1.coords t) ↔ t.val = 15) t

/-- The codes of a row block, from the history, -/
def codes (h : Vec F S1x16 .f32) (x : Vec F S256x8192 .f32) : Vec F S256x8192 .fp8e4m3 :=
  k1_pay9 (k1_pay4 h) (k1_pay6 h) (k1_pay7 h) 0#32 x
/-- the scale, -/
def scale (h : Vec F S1x16 .f32) : Vec F S1x1 .f32 :=
  k1_pay12 (k1_pay4 h) (k1_pay6 h) (k1_pay7 h) 0#32
/-- the running absolute maximum after the block, from the one before it, -/
def amax (a : Prop) [Decidable a] (x : Vec F S256x8192 .f32) (m : Vec F S8x8192 .f32) : Vec F S8x8192 .f32 :=
  if a then k1_pay11 x else k1_pay1 (k1_pay10 x) m
/-- and the new history. -/
def hist (h : Vec F S1x16 .f32) (m : Vec F S8x8192 .f32) : Vec F S1x16 .f32 :=
  k1_pay2 (k1_pay3 h) m

set_option maxHeartbeats 8000000 in
/-- One run of the body on any buffers. -/
theorem run (c : Dev nD) (i : grid1.Coords) (arg1 : Memref sig .tc .vmem S1x16 .f32) (harg1 : arg1.IsWhole) (arg2 : Memref sig .tc .vmem S256x8192 .f32) (harg2 : arg2.IsWhole) (arg3 : Memref sig .tc .vmem S256x8192 .fp8e4m3) (harg3 : arg3.IsWhole) (arg4 : Memref sig .tc .vmem S1x1 .f32) (harg4 : arg4.IsWhole) (arg5 : Memref sig .tc .vmem S1x16 .f32) (harg5 : arg5.IsWhole) (arg6 : Memref sig .tc .vmem S8x8192 .f32) (harg6 : arg6.IsWhole)
    (h12 : later i ↔ ¬ first i)
    (h : Vec F S1x16 .f32) (x : Vec F S256x8192 .f32) (s : Vec F S1x1 .f32) (n : Vec F S1x16 .f32) (m : Vec F S8x8192 .f32) (E : Set ℕ) (K : PUnit → sProp 𝕄) :
        iprop(owns (c : Thread nD τ) arg1 fullShare h ∗ owns (c : Thread nD τ) arg2 fullShare x ∗ (∃ d, owns (c : Thread nD τ) arg3 fullShare d)
            ∗ owns (c : Thread nD τ) arg4 fullShare s ∗ owns (c : Thread nD τ) arg5 fullShare n ∗ owns (c : Thread nD τ) arg6 fullShare m
            ∗ (iprop(owns (c : Thread nD τ) arg1 fullShare h ∗ owns (c : Thread nD τ) arg2 fullShare x ∗ owns (c : Thread nD τ) arg3 fullShare (codes h x)
                ∗ owns (c : Thread nD τ) arg4 fullShare (if first i then scale h else s)
                ∗ owns (c : Thread nD τ) arg5 fullShare (if last i then hist h (amax (first i) x m) else n)
                ∗ owns (c : Thread nD τ) arg6 fullShare (amax (first i) x m)) -∗ K ⟨⟩))
          ⊢ wp frame (wpE (defs₀ (F := F)) Variants.none c none) E (cc1_quantise i arg1 harg1 arg2 harg2 arg3 harg3 arg4 harg4 arg5 harg5 arg6 harg6) K := by
  simp only [cc1_quantise_eq_skeleton]; unfold cc1_quantise_skel
  simp only [k1_part1_eq_skeleton, k1_part2_eq_skeleton]; unfold k1_part1_skel k1_part2_skel
  unfold owns amax codes scale hist
  by_cases hc1 : first i <;> by_cases hc3 : last i <;>
  · have hc2 := h12
    first | replace hc2 := h12.mpr hc1 | replace hc2 : ¬ later i := fun h => h12.mp h hc1
    first | rw [if_pos hc1] | rw [if_neg hc1]
    first | rw [if_pos hc3] | rw [if_neg hc3]
    first | rw [if_pos hc1] | rw [if_neg hc1] | skip
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg1.eq_unread hf0; obtain rfl := harg2.eq_unread hf1
    obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      first
        | (try unfold run.sl.H5_1
           try unfold run.sl.H5_1_1
           rw [read_store _ off2]
           try unfold run.sl.v84
           try unfold run.sl.v84_1
           try unfold run.sl.v84_2
           try unfold run.sl.H5_1
           try unfold run.sl.H5_1_1
           repeat rw [load_store _ off2]
           repeat rw [load_whole _ off2]
           try rw [hf0]
           try rw [hf1]
           try rw [hf5])
    isplitl [H3]
    · iexists _; isplitr
      swap; · iexact H3
      ipureintro
      first
        | (try unfold run.sl.H5_1
           try unfold run.sl.H5_1_1
           rw [read_store _ off2]
           try unfold run.sl.v84
           try unfold run.sl.v84_1
           try unfold run.sl.v84_2
           try unfold run.sl.H5_1
           try unfold run.sl.H5_1_1
           repeat rw [load_store _ off2]
           repeat rw [load_whole _ off2]
           try rw [hf0]
           try rw [hf1]
           try rw [hf5])
        | exact hf3
    isplitl [H4]
    · iexists _; isplitr
      swap; · iexact H4
      ipureintro
      first
        | (try unfold run.sl.H5_1
           try unfold run.sl.H5_1_1
           rw [read_store _ off2]
           try unfold run.sl.v84
           try unfold run.sl.v84_1
           try unfold run.sl.v84_2
           try unfold run.sl.H5_1
           try unfold run.sl.H5_1_1
           repeat rw [load_store _ off2]
           repeat rw [load_whole _ off2]
           try rw [hf0]
           try rw [hf1]
           try rw [hf5])
        | exact hf4
    iexists _; isplitr
    swap; · iexact H5
    ipureintro
    first
      | (try unfold run.sl.H5_1
         try unfold run.sl.H5_1_1
         rw [read_store _ off2]
         try unfold run.sl.v84
         try unfold run.sl.v84_1
         try unfold run.sl.v84_2
         try unfold run.sl.H5_1
         try unfold run.sl.H5_1_1
         repeat rw [load_store _ off2]
         repeat rw [load_whole _ off2]
         try rw [hf0]
         try rw [hf1]
         try rw [hf5])

end Cert.KernelIdeal.Qw
end
-- ==== Proof.QwRegion.lean ====
/-
  The region that quantises the weights, as a pipeline: what each buffer holds after each point.
-/
module

public import proofs.«01_k».proof.Proof.Qw
public import proofs.«01_k».proof.Proof.Idle

@[expose] public section

set_option maxRecDepth 16384

noncomputable section

namespace Cert.KernelIdeal.Qw

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w`'s array at point `t`, as the region finds the array. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The first point. -/
def t0 : Fin cfg1.N := ⟨0, by rw [show cfg1.N = 16 from N_1]; decide⟩

/-- The running absolute maximum after the point at position `n`. -/
def acc (c : Dev nD) : ℕ → Vec F S8x8192 .f32
  | 0 => k1_pay11 (iblk V c 1 t0)
  | n + 1 => if hn : n + 1 < cfg1.N then amax False (iblk V c 1 ⟨n + 1, hn⟩) (acc c n) else acc c n

theorem amax_congr {a b : Prop} [Decidable a] [Decidable b] (h : a ↔ b) (x : Vec F S256x8192 .f32) (m : Vec F S8x8192 .f32) : amax a x m = amax b x m := by
  unfold amax; exact if_congr h rfl rfl

/-- The maximum after a point, from the scratch buffer's contents before it. -/
theorem acc_step (c : Dev nD) (t : Fin cfg1.N) (m : Vec F S8x8192 .f32) (hm : t.val ≠ 0 → m = acc V c (t.val - 1)) :
    amax (first (grid1.coords t)) (iblk V c 1 t) m = acc V c t.val := by
  rw [amax_congr (first_iff t)]
  obtain ⟨n, hn⟩ := t
  cases n with
  | zero => unfold amax; rw [if_pos rfl]; rfl
  | succ n =>
    rw [hm (Nat.succ_ne_zero n), acc, dif_pos hn]
    exact amax_congr (iff_of_false (Nat.succ_ne_zero n) id) _ _

/-- What the body leaves in each window's staging buffer. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => codes (iblk V c 0 t) (iblk V c 1 t)
    | ⟨3, _⟩ => scale (iblk V c 0 t0)
    | ⟨4, _⟩ => hist (iblk V c 0 t) (acc V c t.val)
  Φ t := iprop(∃ m, ⌜t.val ≠ 0 → m = acc V c (t.val - 1)⌝ ∗ owns (c : Thread nD τ) (Memref.whole cc1_scratch0) fullShare m
    ∗ Pipeline.scopedRestBut (Ix := Unit) (Name := ℕ) (U := UR sig nD τ) (Lvl := ℕ) (Val := Elt F) spec1 c [cc1_scratch0] ∗ ∃ r, prngReg c r)
  q _ := fullShare
  owed _ := 0

/-- The arrays the region enters with. -/
theorem A_eq (c : Dev nD) (w : Fin cfg1.W) : (dat V c).A w = V c (Proc.devRef .tc (Pipeline.arrRef spec1 w)) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = codes (iblk V c 0 t) (iblk V c 1 t) := by dsimp only [dat]
theorem after_3 (c : Dev nD) (t : Fin cfg1.N) : (dat V c).after 3 t = scale (iblk V c 0 t0) := by dsimp only [dat]
theorem after_4 (c : Dev nD) (t : Fin cfg1.N) : (dat V c).after 4 t = hist (iblk V c 0 t) (acc V c t.val) := by dsimp only [dat]

/-! Each input window holds its block when the body runs. -/

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

theorem idle_3 (t : Fin cfg1.N) : cfg1.idle 3 (cfg1.grid.coords t) = true ↔ t.val ≠ 0 := by
  have h := first_iff t
  show (!(k1_cond1 (grid1.coords t) == 1#1)) = true ↔ _
  rw [Bool.not_eq_true', beq_eq_false_iff_ne]
  exact not_congr h

theorem idle_4 (t : Fin cfg1.N) : cfg1.idle 4 (cfg1.grid.coords t) = true ↔ t.val ≠ 15 := by
  have h := last_iff t
  show (!(k1_cond3 (grid1.coords t) == 1#1)) = true ↔ _
  rw [Bool.not_eq_true', beq_eq_false_iff_ne]
  exact not_congr h

/-- After the first point the scale's buffer has been written. -/
theorem fresh_3 : ∀ n, n ≠ 0 → n < cfg1.N → cfg1.fresh 3 n = false
  | 0, h, _ => absurd rfl h
  | n + 1, _, hn => by
    have hN : cfg1.N = 16 := N_1
    rw [Pipeline.Cfg.fresh_succ _ _ _ (Nat.lt_of_succ_lt hn)]
    have hf : (cfg1.win 3).flush ⟨n, Nat.lt_of_succ_lt hn⟩ = false := Bool.eq_false_iff.mpr fun hf => by
      have := (flush1_3 _).mp hf; dsimp only at this; omega
    rw [hf, Bool.false_or]
    by_cases h0 : n = 0
    · rw [Bool.eq_false_iff.mpr fun hi => (idle_3 ⟨n, Nat.lt_of_succ_lt hn⟩).mp hi h0, Bool.false_and]
    · rw [fresh_3 n h0 (Nat.lt_of_succ_lt hn), Bool.and_false]

/-- A later point finds the scale in its buffer. -/
theorem before_3 (c : Dev nD) (t : Fin cfg1.N) (h : t.val ≠ 0) (d) : (dat V c).before 3 t d = scale (iblk V c 0 t0) := by
  rw [Dat.before_out_traj (dat V c) 3 rfl (fun _ _ => rfl) (fun t _ _ _ => by rw [after_3, after_3]) t.val t rfl d,
    fresh_3 t.val h t.isLt, if_neg Bool.false_ne_true, after_3]

/-- What the scale's buffer holds after the body, as the pipeline asks for it. -/
theorem leaves_3 (c : Dev nD) (t : Fin cfg1.N) (d) :
    (owns (c : Thread nD τ) (st1_3 t) fullShare (if first (grid1.coords t) then scale (iblk V c 0 t) else (dat V c).before 3 t d) : sProp 𝕄)
      ⊢ (dat V c).leavesExact 3 t := by
  by_cases h : t.val = 0
  · rw [if_pos ((first_iff t).mpr h), show t = t0 from Fin.ext h, ← after_3 V c t0]
    exact leaves_after _ _ _ (.inl (Bool.eq_false_iff.mpr fun hi => (idle_3 t0).mp hi rfl))
  · rw [if_neg fun hf => h ((first_iff t).mp hf)]
    exact leaves_before _ _ _ _ ((before_3 V c t h d).trans (after_3 V c t).symm)

/-- What the history's buffer holds after the body, as the pipeline asks for it. -/
theorem leaves_4 (c : Dev nD) (t : Fin cfg1.N) (d) :
    (owns (c : Thread nD τ) (st1_4 t) fullShare (if last (grid1.coords t) then hist (iblk V c 0 t) (acc V c t.val) else (dat V c).before 4 t d) : sProp 𝕄)
      ⊢ (dat V c).leavesExact 4 t := by
  by_cases h : t.val = 15
  · rw [if_pos ((last_iff t).mpr h), ← after_4 V c t]
    exact leaves_after _ _ _ (.inl (Bool.eq_false_iff.mpr fun hi => (idle_4 t).mp hi h))
  · rw [if_neg fun hf => h ((last_iff t).mp hf)]
    have hN : t.val < 16 := lt_of_lt_of_eq t.isLt (show cfg1.N = 16 from N_1)
    exact Cert.Proof.leaves_idle _ _ _ _ ((idle_4 t).mpr h) (Bool.eq_false_iff.mpr fun hf => by have := (flush1_4 _).mp hf; omega)

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ (dat V c).leavesExact 3 t
    ∗ (dat V c).leavesExact 4 t)

/-- The scratch buffer after a point, from the buffer before it. -/
theorem scratch_step (c : Dev nD) (t : Fin cfg1.N) :
    (dat V c).Φ t.castSucc = iprop(∃ m, ⌜t.val ≠ 0 → m = acc V c (t.val - 1)⌝ ∗ owns (c : Thread nD τ) (Memref.whole cc1_scratch0) fullShare m
    ∗ Pipeline.scopedRestBut (Ix := Unit) (Name := ℕ) (U := UR sig nD τ) (Lvl := ℕ) (Val := Elt F) spec1 c [cc1_scratch0] ∗ ∃ r, prngReg c r) := rfl

theorem scratch_next (c : Dev nD) (t : Fin cfg1.N) :
    (dat V c).Φ t.succ = iprop(∃ m, ⌜t.val + 1 ≠ 0 → m = acc V c (t.val + 1 - 1)⌝ ∗ owns (c : Thread nD τ) (Memref.whole cc1_scratch0) fullShare m
    ∗ Pipeline.scopedRestBut (Ix := Unit) (Name := ℕ) (U := UR sig nD τ) (Lvl := ℕ) (Val := Elt F) spec1 c [cc1_scratch0] ∗ ∃ r, prngReg c r) := rfl

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [scratch_step, scratch_next, show (dat V c).owesAt () t.succ = (dat V c).owesAt () t.castSucc from rfl,
    after_0, after_1, after_2]
  iintro ⟨⟨%m, %hm, Hm, HR⟩, Ho, ⟨%d0, H0⟩, ⟨%d1, H1⟩, ⟨%d2, H2⟩, ⟨%d3, H3⟩, ⟨%d4, H4⟩⟩
  iapply (run c (grid1.coords t) _ _ _ _ _ _ _ _ _ _ _ _ (later_iff t) (iblk V c 0 t) (iblk V c 1 t) ((dat V c).before 3 t d3) ((dat V c).before 4 t d4) m Set.univ _)
  isplitl [H0]; · iexact H0
  isplitl [H1]; · iexact H1
  isplitl [H2]; · iexists _; iexact H2
  isplitl [H3]; · iexact H3
  isplitl [H4]; · iexact H4
  isplitl [Hm]; · iexact Hm
  rw [acc_step V c t m hm]
  iintro ⟨H0, H1, H2, H3, H4, Hm⟩
  isplitl [Hm HR]
  · iexists _
    isplitr
    swap
    · isplitl [Hm]; · iexact Hm
      iexact HR
    ipureintro
    exact fun _ => rfl
  isplitl [Ho]; · iexact Ho
  isplitl [H0]; · iexact H0
  isplitl [H1]; · iexact H1
  isplitl [H2]; · iexact H2
  isplitl [H3]
  · iapply (leaves_3 V c t d3); iexact H3
  iapply (leaves_4 V c t d4); iexact H4

/-- The body table's row is the body. -/
theorem row (t : Fin cfg1.N) :
    defs₀ (F := F) .tc cfg1.body (cfg1.bodyArgs t (cfg1.slots t)) = bodyAt1 t := by
  unfold defs₀; rw [Defs.onTc_tc]

/-- The body at every point takes the staging buffers from what the region holds there to what it leaves. -/
theorem body_obligation (c : Dev nD) : BodyObligation (dat (F := F) V c) (defs₀ (F := F)) Variants.none () Set.univ := fun t => by
  rw [bigSep_W1, bigSep_W1, row]
  exact triple_restated (sound_body V c t) rfl .rfl fun _ => .rfl

theorem scratch_whole (c : Dev nD) (m : Vec F S8x8192 .f32) :
    (owns (c : Thread nD τ) (Memref.whole cc1_scratch0) fullShare m : sProp 𝕄)
      ⊢ iprop(∃ f : Buf (Elt F) ((c : Thread nD τ).loc cc1_scratch0), ((c : Thread nD τ).loc cc1_scratch0) ↦{fullShare} f) := by
  rw [owns_whole_eq]
  iintro ⟨%f, -, Hf⟩
  iexists f; iexact Hf

/-- The region's scratch at its entry, -/
theorem enter (c : Dev nD) : iprop(Pipeline.scopedRest (Ix := Unit) (Name := ℕ) (U := UR sig nD τ) (Lvl := ℕ) (Val := Elt F) spec1 c ∗ ∃ r, prngReg c r)
    ⊢ (dat (F := F) V c).Φ 0 := by
  rw [scopedRest1_split]
  show _ ⊢ iprop(∃ m, ⌜(0 : ℕ) ≠ 0 → m = acc V c (0 - 1)⌝ ∗ owns (c : Thread nD τ) (Memref.whole cc1_scratch0) fullShare m
    ∗ Pipeline.scopedRestBut (Ix := Unit) (Name := ℕ) (U := UR sig nD τ) (Lvl := ℕ) (Val := Elt F) spec1 c [cc1_scratch0] ∗ ∃ r, prngReg c r)
  iintro ⟨⟨⟨%f, Hf⟩, HR⟩, Hp⟩
  iexists f
  isplitr
  · ipureintro; exact fun h => absurd rfl h
  isplitl [Hf]
  · rw [owns_whole_eq]
    iexists f; isplitr; · ipureintro; rfl
    iexact Hf
  isplitl [HR]; · iexact HR
  iexact Hp

/-- and at its end. -/
theorem leave (c : Dev nD) (t : Fin (cfg1.N + 1)) :
    (dat (F := F) V c).Φ t ⊢ iprop(Pipeline.scopedRest (Ix := Unit) (Name := ℕ) (U := UR sig nD τ) (Lvl := ℕ) (Val := Elt F) spec1 c ∗ ∃ r, prngReg c r) := by
  rw [scopedRest1_split]
  show iprop(∃ m, ⌜t.val ≠ 0 → m = acc V c (t.val - 1)⌝ ∗ owns (c : Thread nD τ) (Memref.whole cc1_scratch0) fullShare m
    ∗ Pipeline.scopedRestBut (Ix := Unit) (Name := ℕ) (U := UR sig nD τ) (Lvl := ℕ) (Val := Elt F) spec1 c [cc1_scratch0] ∗ ∃ r, prngReg c r) ⊢ _
  iintro ⟨%m, %hm, Hm, HR, Hp⟩
  isplitl [Hm HR]
  · isplitl [Hm]
    · iapply (scratch_whole c m); iexact Hm
    iexact HR
  iexact Hp

end Cert.KernelIdeal.Qw
end
-- ==== Proof.Qdy.lean ====
/-
  The region that quantises the output gradient: what its body leaves, point by point.

  Every point turns one row block into codes. The first point also stores the scale, and the running absolute maximum
  is kept in a scratch buffer from point to point; the last point reads it and stores the new history. In between the
  two small outputs are not touched.
-/
module

public import proofs.«01_k».proof.Proof.Cell

@[expose] public section

set_option maxRecDepth 16384

noncomputable section

namespace Cert.KernelIdeal.Qdy

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point, -/
abbrev first (i : grid2.Coords) : Prop := k2_cond1 i = 1#1
/-- a later point, -/
abbrev later (i : grid2.Coords) : Prop := (Scalar.cmpi .ne (Scalar.extui (Scalar.cmpi .sgt (BitVec.ofNat 32 (i 0).val) 0#32)) 0#32) = 1#1
/-- and the last point. -/
abbrev last (i : grid2.Coords) : Prop := k2_cond3 i = 1#1

theorem first_iff (t : Fin cfg2.N) : first (grid2.coords t) ↔ t.val = 0 :=
  (fun t => by
    have ht : t.val < 48 := Nat.lt_of_lt_of_eq t.isLt N_2
    have e0 : (grid2.coords t 0).val = t.val / 1 % 48 := Pipeline.Grid.coords_val t 0 (by decide) rfl
    simp only [first, k2_cond1, e0]
    word_cmp
   : ∀ t : Fin grid2.N, first (grid2.coords t) ↔ t.val = 0) t

theorem later_iff (t : Fin cfg2.N) : later (grid2.coords t) ↔ ¬ first (grid2.coords t) :=
  (fun t => by
    rw [first_iff]
    have ht : t.val < 48 := Nat.lt_of_lt_of_eq t.isLt N_2
    have e0 : (grid2.coords t 0).val = t.val / 1 % 48 := Pipeline.Grid.coords_val t 0 (by decide) rfl
    simp only [later, e0]
    word_cmp
   : ∀ t : Fin grid2.N, later (grid2.coords t) ↔ ¬ first (grid2.coords t)) t

theorem last_iff (t : Fin cfg2.N) : last (grid2.coords t) ↔ t.val = 47 :=
  (fun t => by
    have ht : t.val < 48 := Nat.lt_of_lt_of_eq t.isLt N_2
    have e0 : (grid2.coords t 0).val = t.val / 1 % 48 := Pipeline.Grid.coords_val t 0 (by decide) rfl
    simp only [last, k2_cond3, e0]
    word_cmp
   : ∀ t : Fin grid2.N, last (grid2.coords t) ↔ t.val = 47) t

/-- The codes of a row block, from the history, -/
def codes (h : Vec F S1x16 .f32) (x : Vec F S256x8192 .bf16) : Vec F S256x8192 .fp8e5m2 :=
  k2_pay10 (k2_pay4 h) (k2_pay6 h) (k2_pay7 h) 0#32 x
/-- the scale, -/
def scale (h : Vec F S1x16 .f32) : Vec F S1x1 .f32 :=
  k2_pay13 (k2_pay4 h) (k2_pay6 h) (k2_pay7 h) 0#32
/-- the running absolute maximum after the block, from the one before it, -/
def amax (a : Prop) [Decidable a] (x : Vec F S256x8192 .bf16) (m : Vec F S8x8192 .f32) : Vec F S8x8192 .f32 :=
  if a then k2_pay12 x else k2_pay1 (k2_pay11 x) m
/-- and the new history. -/
def hist (h : Vec F S1x16 .f32) (m : Vec F S8x8192 .f32) : Vec F S1x16 .f32 :=
  k2_pay2 (k2_pay3 h) m

set_option maxHeartbeats 8000000 in
/-- One run of the body on any buffers. -/
theorem run (c : Dev nD) (i : grid2.Coords) (arg1 : Memref sig .tc .vmem S1x16 .f32) (harg1 : arg1.IsWhole) (arg2 : Memref sig .tc .vmem S256x8192 .bf16) (harg2 : arg2.IsWhole) (arg3 : Memref sig .tc .vmem S256x8192 .fp8e5m2) (harg3 : arg3.IsWhole) (arg4 : Memref sig .tc .vmem S1x1 .f32) (harg4 : arg4.IsWhole) (arg5 : Memref sig .tc .vmem S1x16 .f32) (harg5 : arg5.IsWhole) (arg6 : Memref sig .tc .vmem S8x8192 .f32) (harg6 : arg6.IsWhole)
    (h12 : later i ↔ ¬ first i)
    (h : Vec F S1x16 .f32) (x : Vec F S256x8192 .bf16) (s : Vec F S1x1 .f32) (n : Vec F S1x16 .f32) (m : Vec F S8x8192 .f32) (E : Set ℕ) (K : PUnit → sProp 𝕄) :
        iprop(owns (c : Thread nD τ) arg1 fullShare h ∗ owns (c : Thread nD τ) arg2 fullShare x ∗ (∃ d, owns (c : Thread nD τ) arg3 fullShare d)
            ∗ owns (c : Thread nD τ) arg4 fullShare s ∗ owns (c : Thread nD τ) arg5 fullShare n ∗ owns (c : Thread nD τ) arg6 fullShare m
            ∗ (iprop(owns (c : Thread nD τ) arg1 fullShare h ∗ owns (c : Thread nD τ) arg2 fullShare x ∗ owns (c : Thread nD τ) arg3 fullShare (codes h x)
                ∗ owns (c : Thread nD τ) arg4 fullShare (if first i then scale h else s)
                ∗ owns (c : Thread nD τ) arg5 fullShare (if last i then hist h (amax (first i) x m) else n)
                ∗ owns (c : Thread nD τ) arg6 fullShare (amax (first i) x m)) -∗ K ⟨⟩))
          ⊢ wp frame (wpE (defs₀ (F := F)) Variants.none c none) E (cc2_quantise i arg1 harg1 arg2 harg2 arg3 harg3 arg4 harg4 arg5 harg5 arg6 harg6) K := by
  simp only [cc2_quantise_eq_skeleton]; unfold cc2_quantise_skel
  simp only [k2_part1_eq_skeleton, k2_part2_eq_skeleton]; unfold k2_part1_skel k2_part2_skel
  unfold owns amax codes scale hist
  by_cases hc1 : first i <;> by_cases hc3 : last i <;>
  · have hc2 := h12
    first | replace hc2 := h12.mpr hc1 | replace hc2 : ¬ later i := fun h => h12.mp h hc1
    first | rw [if_pos hc1] | rw [if_neg hc1]
    first | rw [if_pos hc3] | rw [if_neg hc3]
    first | rw [if_pos hc1] | rw [if_neg hc1] | skip
    iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
    obtain rfl := harg1.eq_unread hf0; obtain rfl := harg2.eq_unread hf1
    obtain rfl := harg4.eq_unread hf3; obtain rfl := harg5.eq_unread hf4; obtain rfl := harg6.eq_unread hf5
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr
      swap; · iexact H2
      ipureintro
      first
        | (try unfold run.sl.H5_1
           try unfold run.sl.H5_1_1
           rw [read_store _ off2]
           try unfold run.sl.v86
           try unfold run.sl.v86_1
           try unfold run.sl.v86_2
           try unfold run.sl.H5_1
           try unfold run.sl.H5_1_1
           repeat rw [load_store _ off2]
           repeat rw [load_whole _ off2]
           try rw [hf0]
           try rw [hf1]
           try rw [hf5])
    isplitl [H3]
    · iexists _; isplitr
      swap; · iexact H3
      ipureintro
      first
        | (try unfold run.sl.H5_1
           try unfold run.sl.H5_1_1
           rw [read_store _ off2]
           try unfold run.sl.v86
           try unfold run.sl.v86_1
           try unfold run.sl.v86_2
           try unfold run.sl.H5_1
           try unfold run.sl.H5_1_1
           repeat rw [load_store _ off2]
           repeat rw [load_whole _ off2]
           try rw [hf0]
           try rw [hf1]
           try rw [hf5])
        | exact hf3
    isplitl [H4]
    · iexists _; isplitr
      swap; · iexact H4
      ipureintro
      first
        | (try unfold run.sl.H5_1
           try unfold run.sl.H5_1_1
           rw [read_store _ off2]
           try unfold run.sl.v86
           try unfold run.sl.v86_1
           try unfold run.sl.v86_2
           try unfold run.sl.H5_1
           try unfold run.sl.H5_1_1
           repeat rw [load_store _ off2]
           repeat rw [load_whole _ off2]
           try rw [hf0]
           try rw [hf1]
           try rw [hf5])
        | exact hf4
    iexists _; isplitr
    swap; · iexact H5
    ipureintro
    first
      | (try unfold run.sl.H5_1
         try unfold run.sl.H5_1_1
         rw [read_store _ off2]
         try unfold run.sl.v86
         try unfold run.sl.v86_1
         try unfold run.sl.v86_2
         try unfold run.sl.H5_1
         try unfold run.sl.H5_1_1
         repeat rw [load_store _ off2]
         repeat rw [load_whole _ off2]
         try rw [hf0]
         try rw [hf1]
         try rw [hf5])

end Cert.KernelIdeal.Qdy
end
-- ==== Proof.QdyRegion.lean ====
/-
  The region that quantises the output gradient, as a pipeline: what each buffer holds after each point.
-/
module

public import proofs.«01_k».proof.Proof.Qdy
public import proofs.«01_k».proof.Proof.Idle

@[expose] public section

set_option maxRecDepth 16384

noncomputable section

namespace Cert.KernelIdeal.Qdy

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Dev nD → Valuation τ sig (Elt F))

/-- The block of window `w`'s array at point `t`, as the region finds the array. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The first point. -/
def t0 : Fin cfg2.N := ⟨0, by rw [show cfg2.N = 48 from N_2]; decide⟩

/-- The running absolute maximum after the point at position `n`. -/
def acc (c : Dev nD) : ℕ → Vec F S8x8192 .f32
  | 0 => k2_pay12 (iblk V c 1 t0)
  | n + 1 => if hn : n + 1 < cfg2.N then amax False (iblk V c 1 ⟨n + 1, hn⟩) (acc c n) else acc c n

theorem amax_congr {a b : Prop} [Decidable a] [Decidable b] (h : a ↔ b) (x : Vec F S256x8192 .bf16) (m : Vec F S8x8192 .f32) : amax a x m = amax b x m := by
  unfold amax; exact if_congr h rfl rfl

/-- The maximum after a point, from the scratch buffer's contents before it. -/
theorem acc_step (c : Dev nD) (t : Fin cfg2.N) (m : Vec F S8x8192 .f32) (hm : t.val ≠ 0 → m = acc V c (t.val - 1)) :
    amax (first (grid2.coords t)) (iblk V c 1 t) m = acc V c t.val := by
  rw [amax_congr (first_iff t)]
  obtain ⟨n, hn⟩ := t
  cases n with
  | zero => unfold amax; rw [if_pos rfl]; rfl
  | succ n =>
    rw [hm (Nat.succ_ne_zero n), acc, dif_pos hn]
    exact amax_congr (iff_of_false (Nat.succ_ne_zero n) id) _ _

/-- What the body leaves in each window's staging buffer. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => codes (iblk V c 0 t) (iblk V c 1 t)
    | ⟨3, _⟩ => scale (iblk V c 0 t0)
    | ⟨4, _⟩ => hist (iblk V c 0 t) (acc V c t.val)
  Φ t := iprop(∃ m, ⌜t.val ≠ 0 → m = acc V c (t.val - 1)⌝ ∗ owns (c : Thread nD τ) (Memref.whole cc2_scratch0) fullShare m
    ∗ Pipeline.scopedRestBut (Ix := Unit) (Name := ℕ) (U := UR sig nD τ) (Lvl := ℕ) (Val := Elt F) spec2 c [cc2_scratch0] ∗ ∃ r, prngReg c r)
  q _ := fullShare
  owed _ := 0

/-- The arrays the region enters with. -/
theorem A_eq (c : Dev nD) (w : Fin cfg2.W) : (dat V c).A w = V c (Proc.devRef .tc (Pipeline.arrRef spec2 w)) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = codes (iblk V c 0 t) (iblk V c 1 t) := by dsimp only [dat]
theorem after_3 (c : Dev nD) (t : Fin cfg2.N) : (dat V c).after 3 t = scale (iblk V c 0 t0) := by dsimp only [dat]
theorem after_4 (c : Dev nD) (t : Fin cfg2.N) : (dat V c).after 4 t = hist (iblk V c 0 t) (acc V c t.val) := by dsimp only [dat]

/-! Each input window holds its block when the body runs. -/

theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)

theorem idle_3 (t : Fin cfg2.N) : cfg2.idle 3 (cfg2.grid.coords t) = true ↔ t.val ≠ 0 := by
  have h := first_iff t
  show (!(k2_cond1 (grid2.coords t) == 1#1)) = true ↔ _
  rw [Bool.not_eq_true', beq_eq_false_iff_ne]
  exact not_congr h

theorem idle_4 (t : Fin cfg2.N) : cfg2.idle 4 (cfg2.grid.coords t) = true ↔ t.val ≠ 47 := by
  have h := last_iff t
  show (!(k2_cond3 (grid2.coords t) == 1#1)) = true ↔ _
  rw [Bool.not_eq_true', beq_eq_false_iff_ne]
  exact not_congr h

/-- After the first point the scale's buffer has been written. -/
theorem fresh_3 : ∀ n, n ≠ 0 → n < cfg2.N → cfg2.fresh 3 n = false
  | 0, h, _ => absurd rfl h
  | n + 1, _, hn => by
    have hN : cfg2.N = 48 := N_2
    rw [Pipeline.Cfg.fresh_succ _ _ _ (Nat.lt_of_succ_lt hn)]
    have hf : (cfg2.win 3).flush ⟨n, Nat.lt_of_succ_lt hn⟩ = false := Bool.eq_false_iff.mpr fun hf => by
      have := (flush2_3 _).mp hf; dsimp only at this; omega
    rw [hf, Bool.false_or]
    by_cases h0 : n = 0
    · rw [Bool.eq_false_iff.mpr fun hi => (idle_3 ⟨n, Nat.lt_of_succ_lt hn⟩).mp hi h0, Bool.false_and]
    · rw [fresh_3 n h0 (Nat.lt_of_succ_lt hn), Bool.and_false]

/-- A later point finds the scale in its buffer. -/
theorem before_3 (c : Dev nD) (t : Fin cfg2.N) (h : t.val ≠ 0) (d) : (dat V c).before 3 t d = scale (iblk V c 0 t0) := by
  rw [Dat.before_out_traj (dat V c) 3 rfl (fun _ _ => rfl) (fun t _ _ _ => by rw [after_3, after_3]) t.val t rfl d,
    fresh_3 t.val h t.isLt, if_neg Bool.false_ne_true, after_3]

/-- What the scale's buffer holds after the body, as the pipeline asks for it. -/
theorem leaves_3 (c : Dev nD) (t : Fin cfg2.N) (d) :
    (owns (c : Thread nD τ) (st2_3 t) fullShare (if first (grid2.coords t) then scale (iblk V c 0 t) else (dat V c).before 3 t d) : sProp 𝕄)
      ⊢ (dat V c).leavesExact 3 t := by
  by_cases h : t.val = 0
  · rw [if_pos ((first_iff t).mpr h), show t = t0 from Fin.ext h, ← after_3 V c t0]
    exact leaves_after _ _ _ (.inl (Bool.eq_false_iff.mpr fun hi => (idle_3 t0).mp hi rfl))
  · rw [if_neg fun hf => h ((first_iff t).mp hf)]
    exact leaves_before _ _ _ _ ((before_3 V c t h d).trans (after_3 V c t).symm)

/-- What the history's buffer holds after the body, as the pipeline asks for it. -/
theorem leaves_4 (c : Dev nD) (t : Fin cfg2.N) (d) :
    (owns (c : Thread nD τ) (st2_4 t) fullShare (if last (grid2.coords t) then hist (iblk V c 0 t) (acc V c t.val) else (dat V c).before 4 t d) : sProp 𝕄)
      ⊢ (dat V c).leavesExact 4 t := by
  by_cases h : t.val = 47
  · rw [if_pos ((last_iff t).mpr h), ← after_4 V c t]
    exact leaves_after _ _ _ (.inl (Bool.eq_false_iff.mpr fun hi => (idle_4 t).mp hi h))
  · rw [if_neg fun hf => h ((last_iff t).mp hf)]
    have hN : t.val < 48 := lt_of_lt_of_eq t.isLt (show cfg2.N = 48 from N_2)
    exact Cert.Proof.leaves_idle _ _ _ _ ((idle_4 t).mpr h) (Bool.eq_false_iff.mpr fun hf => by have := (flush2_4 _).mp hf; omega)

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ (dat V c).leavesExact 3 t
    ∗ (dat V c).leavesExact 4 t)

/-- The scratch buffer after a point, from the buffer before it. -/
theorem scratch_step (c : Dev nD) (t : Fin cfg2.N) :
    (dat V c).Φ t.castSucc = iprop(∃ m, ⌜t.val ≠ 0 → m = acc V c (t.val - 1)⌝ ∗ owns (c : Thread nD τ) (Memref.whole cc2_scratch0) fullShare m
    ∗ Pipeline.scopedRestBut (Ix := Unit) (Name := ℕ) (U := UR sig nD τ) (Lvl := ℕ) (Val := Elt F) spec2 c [cc2_scratch0] ∗ ∃ r, prngReg c r) := rfl

theorem scratch_next (c : Dev nD) (t : Fin cfg2.N) :
    (dat V c).Φ t.succ = iprop(∃ m, ⌜t.val + 1 ≠ 0 → m = acc V c (t.val + 1 - 1)⌝ ∗ owns (c : Thread nD τ) (Memref.whole cc2_scratch0) fullShare m
    ∗ Pipeline.scopedRestBut (Ix := Unit) (Name := ℕ) (U := UR sig nD τ) (Lvl := ℕ) (Val := Elt F) spec2 c [cc2_scratch0] ∗ ∃ r, prngReg c r) := rfl

/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [scratch_step, scratch_next, show (dat V c).owesAt () t.succ = (dat V c).owesAt () t.castSucc from rfl,
    after_0, after_1, after_2]
  iintro ⟨⟨%m, %hm, Hm, HR⟩, Ho, ⟨%d0, H0⟩, ⟨%d1, H1⟩, ⟨%d2, H2⟩, ⟨%d3, H3⟩, ⟨%d4, H4⟩⟩
  iapply (run c (grid2.coords t) _ _ _ _ _ _ _ _ _ _ _ _ (later_iff t) (iblk V c 0 t) (iblk V c 1 t) ((dat V c).before 3 t d3) ((dat V c).before 4 t d4) m Set.univ _)
  isplitl [H0]; · iexact H0
  isplitl [H1]; · iexact H1
  isplitl [H2]; · iexists _; iexact H2
  isplitl [H3]; · iexact H3
  isplitl [H4]; · iexact H4
  isplitl [Hm]; · iexact Hm
  rw [acc_step V c t m hm]
  iintro ⟨H0, H1, H2, H3, H4, Hm⟩
  isplitl [Hm HR]
  · iexists _
    isplitr
    swap
    · isplitl [Hm]; · iexact Hm
      iexact HR
    ipureintro
    exact fun _ => rfl
  isplitl [Ho]; · iexact Ho
  isplitl [H0]; · iexact H0
  isplitl [H1]; · iexact H1
  isplitl [H2]; · iexact H2
  isplitl [H3]
  · iapply (leaves_3 V c t d3); iexact H3
  iapply (leaves_4 V c t d4); iexact H4

/-- The body table's row is the body. -/
theorem row (t : Fin cfg2.N) :
    defs₀ (F := F) .tc cfg2.body (cfg2.bodyArgs t (cfg2.slots t)) = bodyAt2 t := by
  unfold defs₀; rw [Defs.onTc_tc]

/-- The body at every point takes the staging buffers from what the region holds there to what it leaves. -/
theorem body_obligation (c : Dev nD) : BodyObligation (dat (F := F) V c) (defs₀ (F := F)) Variants.none () Set.univ := fun t => by
  rw [bigSep_W2, bigSep_W2, row]
  exact triple_restated (sound_body V c t) rfl .rfl fun _ => .rfl

theorem scratch_whole (c : Dev nD) (m : Vec F S8x8192 .f32) :
    (owns (c : Thread nD τ) (Memref.whole cc2_scratch0) fullShare m : sProp 𝕄)
      ⊢ iprop(∃ f : Buf (Elt F) ((c : Thread nD τ).loc cc2_scratch0), ((c : Thread nD τ).loc cc2_scratch0) ↦{fullShare} f) := by
  rw [owns_whole_eq]
  iintro ⟨%f, -, Hf⟩
  iexists f; iexact Hf

/-- The region's scratch at its entry, -/
theorem enter (c : Dev nD) : iprop(Pipeline.scopedRest (Ix := Unit) (Name := ℕ) (U := UR sig nD τ) (Lvl := ℕ) (Val := Elt F) spec2 c ∗ ∃ r, prngReg c r)
    ⊢ (dat (F := F) V c).Φ 0 := by
  rw [scopedRest2_split]
  show _ ⊢ iprop(∃ m, ⌜(0 : ℕ) ≠ 0 → m = acc V c (0 - 1)⌝ ∗ owns (c : Thread nD τ) (Memref.whole cc2_scratch0) fullShare m
    ∗ Pipeline.scopedRestBut (Ix := Unit) (Name := ℕ) (U := UR sig nD τ) (Lvl := ℕ) (Val := Elt F) spec2 c [cc2_scratch0] ∗ ∃ r, prngReg c r)
  iintro ⟨⟨⟨%f, Hf⟩, HR⟩, Hp⟩
  iexists f
  isplitr
  · ipureintro; exact fun h => absurd rfl h
  isplitl [Hf]
  · rw [owns_whole_eq]
    iexists f; isplitr; · ipureintro; rfl
    iexact Hf
  isplitl [HR]; · iexact HR
  iexact Hp

/-- and at its end. -/
theorem leave (c : Dev nD) (t : Fin (cfg2.N + 1)) :
    (dat (F := F) V c).Φ t ⊢ iprop(Pipeline.scopedRest (Ix := Unit) (Name := ℕ) (U := UR sig nD τ) (Lvl := ℕ) (Val := Elt F) spec2 c ∗ ∃ r, prngReg c r) := by
  rw [scopedRest2_split]
  show iprop(∃ m, ⌜t.val ≠ 0 → m = acc V c (t.val - 1)⌝ ∗ owns (c : Thread nD τ) (Memref.whole cc2_scratch0) fullShare m
    ∗ Pipeline.scopedRestBut (Ix := Unit) (Name := ℕ) (U := UR sig nD τ) (Lvl := ℕ) (Val := Elt F) spec2 c [cc2_scratch0] ∗ ∃ r, prngReg c r) ⊢ _
  iintro ⟨%m, %hm, Hm, HR, Hp⟩
  isplitl [Hm HR]
  · isplitl [Hm]
    · iapply (scratch_whole c m); iexact Hm
    iexact HR
  iexact Hp

end Cert.KernelIdeal.Qdy
end
-- ==== Proof.Fwd.lean ====
/-
  The region of the forward product: what its body leaves, point by point.

  At a grid point the body multiplies a row tile of the activation codes by a column tile of the weight codes and
  scales the product. The statements hold for any float values, and for any contents `V` of the buffers at entry.
-/
module

public import proofs.«01_k».proof.Proof.Cell

@[expose] public section

set_option maxRecDepth 16384

noncomputable section

namespace Cert.KernelIdeal.Fwd

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the body on any staging buffers: the inputs stay, and the output holds the tile. -/
theorem run (c : Dev nD) (i : grid3.Coords) (arg2 : Memref sig .tc .smem S1x1 .f32) (harg2 : arg2.IsWhole) (arg3 : Memref sig .tc .smem S1x1 .f32) (harg3 : arg3.IsWhole) (arg4 : Memref sig .tc .vmem S1024x4096 .fp8e4m3) (harg4 : arg4.IsWhole) (arg5 : Memref sig .tc .vmem S4096x1024 .fp8e4m3) (harg5 : arg5.IsWhole) (arg6 : Memref sig .tc .vmem S1024x1024 .bf16) (harg6 : arg6.IsWhole)
    (x0 : Vec F S1x1 .f32) (x1 : Vec F S1x1 .f32) (x2 : Vec F S1024x4096 .fp8e4m3) (x3 : Vec F S4096x1024 .fp8e4m3) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k3_pay1 x2 x3 (x0 o11) (x1 o11))) -∗ K ⟨⟩))
          ⊢ wp frame (wpE (defs₀ (F := F)) Variants.none c none) E (cc3_fwd_y i arg2 harg2 arg3 harg3 arg4 harg4 arg5 harg5 arg6 harg6) K := by
    simp only [cc3_fwd_y_eq_skeleton]; unfold cc3_fwd_y_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr
    swap; · iexact H4
    ipureintro
    rw [read_store _ off2, load_whole _ off2, load_whole _ off2, hf2, hf3]
    unfold run.sl.r run.sl.r_1
    rw [load_whole _ off2, load_whole _ off2, hf0, hf1]
    rfl

variable (V : Dev nD → Valuation τ sig (Elt F))

/-- The block of window `w`'s array at point `t`, as the region finds the array. -/
def iblk (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- What the body leaves in each window's staging buffer. -/
def dat (c : Dev nD) : Dat τ (Elt F) Unit ℕ (UR sig nD τ) ℕ cfg3 c where
  A w := V c (Proc.devRef .tc (Pipeline.arrRef spec3 w))
  after w t := match w with
    | ⟨0, _⟩ => iblk V c 0 t
    | ⟨1, _⟩ => iblk V c 1 t
    | ⟨2, _⟩ => iblk V c 2 t
    | ⟨3, _⟩ => iblk V c 3 t
    | ⟨4, _⟩ => k3_pay1 (iblk V c 2 t) (iblk V c 3 t) (iblk V c 0 t o11) (iblk V c 1 t o11)
  Φ _ := Pipeline.ΦA spec3 c
  q _ := fullShare
  owed _ := 0

/-- The arrays the region enters with. -/
theorem A_eq (c : Dev nD) (w : Fin cfg3.W) : (dat V c).A w = V c (Proc.devRef .tc (Pipeline.arrRef spec3 w)) := by
  dsimp only [dat]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t =
    k3_pay1 (iblk V c 2 t) (iblk V c 3 t) (iblk V c 0 t o11) (iblk V c 1 t o11) := by dsimp only [dat]

/-! Each input window holds its block when the body runs. -/

theorem before_0 (c : Dev nD) (t : Fin cfg3.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg3.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg3.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg3.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t))

/-- The body at any point. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c (grid3.coords t) _ _ _ _ _ _ _ _ _ _ (iblk V c 0 t) (iblk V c 1 t) (iblk V c 2 t) (iblk V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body. -/
theorem row (t : Fin cfg3.N) :
    defs₀ (F := F) .tc cfg3.body (cfg3.bodyArgs t (cfg3.slots t)) = bodyAt3 t := by
  unfold defs₀; rw [Defs.onTc_tc]

/-- The body at every point takes the staging buffers from what the region holds there to what it leaves. -/
theorem body_obligation (c : Dev nD) : BodyObligation (dat (F := F) V c) (defs₀ (F := F)) Variants.none () Set.univ := fun t => by
  rw [bigSep_W3, bigSep_W3, row]
  exact triple_restated (sound_body V c t) rfl .rfl fun _ => .rfl

end Cert.KernelIdeal.Fwd
end
-- ==== Proof.Dx.lean ====
/-
  The region of the input gradient: what its body leaves, point by point.

  At a grid point the body multiplies a row tile of the gradient codes by a tile of weight rows and
  scales the product. The statements hold for any float values, and for any contents `V` of the buffers at entry.
-/
module

public import proofs.«01_k».proof.Proof.Cell

@[expose] public section

set_option maxRecDepth 16384

noncomputable section

namespace Cert.KernelIdeal.Dx

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- One run of the body on any staging buffers: the inputs stay, and the output holds the tile. -/
theorem run (c : Dev nD) (i : grid4.Coords) (arg2 : Memref sig .tc .smem S1x1 .f32) (harg2 : arg2.IsWhole) (arg3 : Memref sig .tc .smem S1x1 .f32) (harg3 : arg3.IsWhole) (arg4 : Memref sig .tc .vmem S1024x8192 .fp8e5m2) (harg4 : arg4.IsWhole) (arg5 : Memref sig .tc .vmem S1024x8192 .fp8e4m3) (harg5 : arg5.IsWhole) (arg6 : Memref sig .tc .vmem S1024x1024 .bf16) (harg6 : arg6.IsWhole)
    (x0 : Vec F S1x1 .f32) (x1 : Vec F S1x1 .f32) (x2 : Vec F S1024x8192 .fp8e5m2) (x3 : Vec F S1024x8192 .fp8e4m3) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k4_pay1 x2 x3 (x0 o11) (x1 o11))) -∗ K ⟨⟩))
          ⊢ wp frame (wpE (defs₀ (F := F)) Variants.none c none) E (cc4_bwd_dx i arg2 harg2 arg3 harg3 arg4 harg4 arg5 harg5 arg6 harg6) K := by
    simp only [cc4_bwd_dx_eq_skeleton]; unfold cc4_bwd_dx_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; isplitr
    swap; · iexact H4
    ipureintro
    rw [read_store _ off2, load_whole _ off2, load_whole _ off2, hf2, hf3]
    unfold run.sl.r run.sl.r_1
    rw [load_whole _ off2, load_whole _ off2, hf0, hf1]
    rfl

variable (V : Dev nD → Valuation τ sig (Elt F))

/-- The block of window `w`'s array at point `t`, as the region finds the array. -/
def iblk (c : Dev nD) (w : Fin cfg4.W) (t : Fin cfg4.N) : ((cfg4.win w).xblock (cfg4.grid.coords t)).Idx → Elt F (cfg4.win w).elt :=
  ((cfg4.win w).blk t).view.read (Elt F) (V c (Proc.devRef .tc (Pipeline.arrRef spec4 w)))

/-- What the body leaves in each window's staging buffer. -/
def dat (c : Dev nD) : Dat τ (Elt F) Unit ℕ (UR sig nD τ) ℕ cfg4 c where
  A w := V c (Proc.devRef .tc (Pipeline.arrRef spec4 w))
  after w t := match w with
    | ⟨0, _⟩ => iblk V c 0 t
    | ⟨1, _⟩ => iblk V c 1 t
    | ⟨2, _⟩ => iblk V c 2 t
    | ⟨3, _⟩ => iblk V c 3 t
    | ⟨4, _⟩ => k4_pay1 (iblk V c 2 t) (iblk V c 3 t) (iblk V c 0 t o11) (iblk V c 1 t o11)
  Φ _ := Pipeline.ΦA spec4 c
  q _ := fullShare
  owed _ := 0

/-- The arrays the region enters with. -/
theorem A_eq (c : Dev nD) (w : Fin cfg4.W) : (dat V c).A w = V c (Proc.devRef .tc (Pipeline.arrRef spec4 w)) := by
  dsimp only [dat]

theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = iblk V c 2 t := by dsimp only [dat]
theorem after_3 (c : Dev nD) (t : Fin cfg4.N) : (dat V c).after 3 t = iblk V c 3 t := by dsimp only [dat]
theorem after_4 (c : Dev nD) (t : Fin cfg4.N) : (dat V c).after 4 t =
    k4_pay1 (iblk V c 2 t) (iblk V c 3 t) (iblk V c 0 t o11) (iblk V c 1 t o11) := by dsimp only [dat]

/-! Each input window holds its block when the body runs. -/

theorem before_0 (c : Dev nD) (t : Fin cfg4.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg4.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg4.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg4.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- What the body is called with at point `t`, -/
def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d)))

/-- and what it returns. -/
def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t))

/-- The body at any point. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (run c (grid4.coords t) _ _ _ _ _ _ _ _ _ _ (iblk V c 0 t) (iblk V c 1 t) (iblk V c 2 t) (iblk V c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body. -/
theorem row (t : Fin cfg4.N) :
    defs₀ (F := F) .tc cfg4.body (cfg4.bodyArgs t (cfg4.slots t)) = bodyAt4 t := by
  unfold defs₀; rw [Defs.onTc_tc]

/-- The body at every point takes the staging buffers from what the region holds there to what it leaves. -/
theorem body_obligation (c : Dev nD) : BodyObligation (dat (F := F) V c) (defs₀ (F := F)) Variants.none () Set.univ := fun t => by
  rw [bigSep_W4, bigSep_W4, row]
  exact triple_restated (sound_body V c t) rfl .rfl fun _ => .rfl

end Cert.KernelIdeal.Dx
end
-- ==== Proof.Dw.lean ====
/-
  The region of the weight gradient: what its body leaves, point by point.

  The grid runs six steps for each output tile: the first starts the tile at zero, every step adds one product of a
  block of activation codes with a block of gradient codes, and the last multiplies by the two scales. The statements hold for any float values, and for any contents `V` of the buffers at entry.
-/
module

public import proofs.«01_k».proof.Proof.Cell

@[expose] public section

set_option maxRecDepth 16384

noncomputable section

namespace Cert.KernelIdeal.Dw

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first of a tile's six steps, -/
abbrev first (i : grid5.Coords) : Prop := (Scalar.cmpi .ne (Scalar.extui (Scalar.cmpi .eq (BitVec.ofNat 32 (i 2).val) 0#32)) 0#32) = 1#1
/-- and the last. -/
abbrev last (i : grid5.Coords) : Prop := (Scalar.cmpi .ne (Scalar.extui (Scalar.cmpi .eq (BitVec.ofNat 32 (i 2).val) 5#32)) 0#32) = 1#1

/-- The first step is at the points ≡ 0 (mod 6). -/
theorem first_iff (t : Fin cfg5.N) : first (grid5.coords t) ↔ t.val % 6 = 0 :=
  (fun t => by
    have ht : t.val < 96 := Nat.lt_of_lt_of_eq t.isLt N_5
    have e2 : (grid5.coords t 2).val = t.val / 1 % 6 := Pipeline.Grid.coords_val t 2 (by decide) rfl
    simp only [first, e2]
    word_cmp
   : ∀ t : Fin grid5.N, first (grid5.coords t) ↔ t.val % 6 = 0) t

/-- The last step is at the points ≡ 5 (mod 6). -/
theorem last_iff (t : Fin cfg5.N) : last (grid5.coords t) ↔ t.val % 6 = 5 :=
  (fun t => by
    have ht : t.val < 96 := Nat.lt_of_lt_of_eq t.isLt N_5
    have e2 : (grid5.coords t 2).val = t.val / 1 % 6 := Pipeline.Grid.coords_val t 2 (by decide) rfl
    simp only [last, e2]
    word_cmp
   : ∀ t : Fin grid5.N, last (grid5.coords t) ↔ t.val % 6 = 5) t

/-- One step on a tile `xo`: started at zero when `a`, scaled when `b`. -/
def tile (a b : Prop) [Decidable a] [Decidable b] (x0 x1 : Vec F S1x1 .f32) (x2 : Vec F S2048x1024 .fp8e4m3) (x3 : Vec F S2048x2048 .fp8e5m2)
    (xo : Vec F S1024x2048 .f32) : Vec F S1024x2048 .f32 :=
  if b then k5_pay3 (k5_pay2 (if a then k5_pay1 else xo) x2 x3) (x0 o11) (x1 o11) else k5_pay2 (if a then k5_pay1 else xo) x2 x3

theorem tile_congr {a b a' b' : Prop} [Decidable a] [Decidable b] [Decidable a'] [Decidable b'] (ha : a ↔ a') (hb : b ↔ b')
    (x0 x1 : Vec F S1x1 .f32) (x2 : Vec F S2048x1024 .fp8e4m3) (x3 : Vec F S2048x2048 .fp8e5m2) (xo : Vec F S1024x2048 .f32) :
    tile a b x0 x1 x2 x3 xo = tile a' b' x0 x1 x2 x3 xo := by
  unfold tile; rw [if_congr ha rfl rfl]; exact if_congr hb rfl rfl

set_option maxHeartbeats 4000000 in
/-- One run of the body on any staging buffers: the inputs stay, and the output's tile takes one step. -/
theorem run (c : Dev nD) (i : grid5.Coords) (arg3 : Memref sig .tc .smem S1x1 .f32) (harg3 : arg3.IsWhole) (arg4 : Memref sig .tc .smem S1x1 .f32) (harg4 : arg4.IsWhole) (arg5 : Memref sig .tc .vmem S2048x1024 .fp8e4m3) (harg5 : arg5.IsWhole) (arg6 : Memref sig .tc .vmem S2048x2048 .fp8e5m2) (harg6 : arg6.IsWhole) (arg7 : Memref sig .tc .vmem S1024x2048 .f32) (harg7 : arg7.IsWhole)
    (x0 : Vec F S1x1 .f32) (x1 : Vec F S1x1 .f32) (x2 : Vec F S2048x1024 .fp8e4m3) (x3 : Vec F S2048x2048 .fp8e5m2) (xo : Vec F S1024x2048 .f32) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (tile (first i) (last i) x0 x1 x2 x3 xo)) -∗ K ⟨⟩))
          ⊢ wp frame (wpE (defs₀ (F := F)) Variants.none c none) E (cc5_bwd_dw i arg3 harg3 arg4 harg4 arg5 harg5 arg6 harg6 arg7 harg7) K := by
  simp only [cc5_bwd_dw_eq_skeleton]; unfold cc5_bwd_dw_skel
  unfold owns tile
  by_cases hc0 : first i <;> by_cases hc1 : last i <;>
  · iintro ⟨⟨%f0, %hf0, H0⟩, ⟨%f1, %hf1, H1⟩, ⟨%f2, %hf2, H2⟩, ⟨%f3, %hf3, H3⟩, ⟨%f4, %hf4, H4⟩, Hk⟩
    obtain rfl := harg3.eq_unread hf0; obtain rfl := harg4.eq_unread hf1; obtain rfl := harg5.eq_unread hf2; obtain rfl := harg6.eq_unread hf3
    obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr
    swap; · iexact H4
    ipureintro
    rw [read_store _ off2]
    first | rw [if_pos hc1] | rw [if_neg hc1] | skip
    first | rw [if_pos hc0] | rw [if_neg hc0] | skip
    try unfold run.sl.v15
    try unfold run.sl.v15_1
    try unfold run.sl.v3
    try unfold run.sl.v3_1
    try unfold run.sl.r run.sl.r_1
    try unfold run.sl.r_2 run.sl.r_3
    try unfold run.sl.H4_2
    try unfold run.sl.H4_1_1
    try unfold run.sl.H4_1_2
    try unfold run.sl.H4_1
    try unfold run.sl.v3
    try unfold run.sl.v3_1
    try unfold run.sl.H4_1_1
    try unfold run.sl.H4_1
    repeat rw [load_store _ off2]
    repeat rw [load_whole _ off2]
    rw [hf2, hf3]
    try rw [hf4]
    try rw [hf0, hf1]
    try rfl

variable (V : Dev nD → Valuation τ sig (Elt F))

/-- The block of window `w`'s array at point `t`, as the region finds the array. -/
def iblk (c : Dev nD) (w : Fin cfg5.W) (t : Fin cfg5.N) : ((cfg5.win w).xblock (cfg5.grid.coords t)).Idx → Elt F (cfg5.win w).elt :=
  ((cfg5.win w).blk t).view.read (Elt F) (V c (Proc.devRef .tc (Pipeline.arrRef spec5 w)))

/-- The step at point `t`. -/
def step (c : Dev nD) (t : Fin cfg5.N) (xo : Vec F S1024x2048 .f32) : Vec F S1024x2048 .f32 :=
  tile (t.val % 6 = 0) (t.val % 6 = 5) (iblk V c 0 t) (iblk V c 1 t) (iblk V c 2 t) (iblk V c 3 t) xo

theorem step_fresh (c : Dev nD) (t : Fin cfg5.N) (h : t.val % 6 = 0) (xo xo' : Vec F S1024x2048 .f32) : step V c t xo = step V c t xo' := by
  unfold step tile; rw [if_pos h, if_pos h]

/-- The output's tile after the point at position `n`: the steps in order. -/
def outs (c : Dev nD) : (n : ℕ) → n < cfg5.N → Vec F S1024x2048 .f32
  | 0, hn => step V c ⟨0, hn⟩ k5_pay1
  | n + 1, hn => step V c ⟨n + 1, hn⟩ (outs c n (Nat.lt_of_succ_lt hn))

/-- What the body leaves in each window's staging buffer. -/
def dat (c : Dev nD) : Dat τ (Elt F) Unit ℕ (UR sig nD τ) ℕ cfg5 c where
  A w := V c (Proc.devRef .tc (Pipeline.arrRef spec5 w))
  after w t := match w with
    | ⟨0, _⟩ => iblk V c 0 t
    | ⟨1, _⟩ => iblk V c 1 t
    | ⟨2, _⟩ => iblk V c 2 t
    | ⟨3, _⟩ => iblk V c 3 t
    | ⟨4, _⟩ => outs V c t.val t.isLt
  Φ _ := Pipeline.ΦA spec5 c
  q _ := fullShare
  owed _ := 0

/-- The arrays the region enters with. -/
theorem A_eq (c : Dev nD) (w : Fin cfg5.W) : (dat V c).A w = V c (Proc.devRef .tc (Pipeline.arrRef spec5 w)) := by
  dsimp only [dat]

theorem after_0 (c : Dev nD) (t : Fin cfg5.N) : (dat V c).after 0 t = iblk V c 0 t := by dsimp only [dat]
theorem after_1 (c : Dev nD) (t : Fin cfg5.N) : (dat V c).after 1 t = iblk V c 1 t := by dsimp only [dat]
theorem after_2 (c : Dev nD) (t : Fin cfg5.N) : (dat V c).after 2 t = iblk V c 2 t := by dsimp only [dat]
theorem after_3 (c : Dev nD) (t : Fin cfg5.N) : (dat V c).after 3 t = iblk V c 3 t := by dsimp only [dat]
theorem after_4 (c : Dev nD) (t : Fin cfg5.N) : (dat V c).after 4 t =
    outs V c t.val t.isLt := by dsimp only [dat]

/-! Each input window holds its block when the body runs. -/

theorem before_0 (c : Dev nD) (t : Fin cfg5.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; rfl)
theorem before_1 (c : Dev nD) (t : Fin cfg5.N) (d) : (dat V c).before 1 t d = iblk V c 1 t :=
  ((dat V c).before_in_eq_fetched 1 rfl (fun _ => rfl) (fun _ _ _ => rfl) (fun t => by rw [after_1]; unfold Dat.blockOf iblk; rw [A_eq]) t d).trans
    (by unfold Dat.fetched Dat.blockOf iblk; rw [A_eq]; rfl)
theorem before_2 (c : Dev nD) (t : Fin cfg5.N) (d) : (dat V c).before 2 t d = iblk V c 2 t :=
  ((dat V c).before_in_eq_fetched 2 rfl (fun _ => rfl) (fun _ _ _ => rfl) (fun t => by rw [after_2]; unfold Dat.blockOf iblk; rw [A_eq]) t d).trans
    (by unfold Dat.fetched Dat.blockOf iblk; rw [A_eq]; rfl)
theorem before_3 (c : Dev nD) (t : Fin cfg5.N) (d) : (dat V c).before 3 t d = iblk V c 3 t :=
  ((dat V c).before_in_eq_fetched 3 rfl (fun _ => rfl) (fun _ _ _ => rfl) (fun t => by rw [after_3]; unfold Dat.blockOf iblk; rw [A_eq]) t d).trans
    (by unfold Dat.fetched Dat.blockOf iblk; rw [A_eq]; rfl)

/-- A tile's first step does not look at what the buffer holds; a later one finds what the step before left. -/
theorem step_before (c : Dev nD) (t : Fin cfg5.N) (d) : step V c t ((dat V c).before 4 t d) = outs V c t.val t.isLt := by
  have hN : t.val < 96 := lt_of_lt_of_eq t.isLt (show cfg5.N = 96 from N_5)
  obtain ⟨n, hn⟩ := t
  by_cases h : n % 6 = 0
  · cases n with
    | zero => exact (step_fresh V c _ h _ _)
    | succ n => exact (step_fresh V c _ h _ _)
  · cases n with
    | zero => exact absurd rfl h
    | succ n =>
      rw [Dat.before_out_kept _ 4 rfl ⟨n + 1, hn⟩ (Nat.succ_ne_zero n) (Bool.eq_false_iff.mpr fun hf => by have := (flush5_4 _).mp hf; dsimp only at this; omega)
        (fun _ => rfl) (fun _ _ => rfl), after_4]
      rfl

/-- What the body is called with at point `t`, -/
def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d)))

/-- and what it returns. -/
def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t))

/-- The body at any point. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  rw [← step_before V c t d4]
  iapply (run c (grid5.coords t) _ _ _ _ _ _ _ _ _ _ (iblk V c 0 t) (iblk V c 1 t) (iblk V c 2 t) (iblk V c 3 t) ((dat V c).before 4 t d4) Set.univ _)
  isplitl [H0]; · iexact H0
  isplitl [H1]; · iexact H1
  isplitl [H2]; · iexact H2
  isplitl [H3]; · iexact H3
  isplitl [H4]; · iexact H4
  rw [tile_congr (first_iff t) (last_iff t)]
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body. -/
theorem row (t : Fin cfg5.N) :
    defs₀ (F := F) .tc cfg5.body (cfg5.bodyArgs t (cfg5.slots t)) = bodyAt5 t := by
  unfold defs₀; rw [Defs.onTc_tc]

/-- The body at every point takes the staging buffers from what the region holds there to what it leaves. -/
theorem body_obligation (c : Dev nD) : BodyObligation (dat (F := F) V c) (defs₀ (F := F)) Variants.none () Set.univ := fun t => by
  rw [bigSep_W5, bigSep_W5, row]
  exact triple_restated (sound_body V c t) rfl .rfl fun _ => .rfl

end Cert.KernelIdeal.Dw
end
-- ==== Proof.Chain.lean ====
/-
  The whole run. The six regions and the stretches of reshapes between them, one after the other:
  what every unscoped buffer of a core holds after each, and that every execution ends with the last of these.
-/
module

public import proofs.«01_k».proof.Proof.QxRegion
public import proofs.«01_k».proof.Proof.QwRegion
public import proofs.«01_k».proof.Proof.QdyRegion
public import proofs.«01_k».proof.Proof.Fwd
public import proofs.«01_k».proof.Proof.Dx
public import proofs.«01_k».proof.Proof.Dw

@[expose] public section

noncomputable section

namespace Cert.KernelIdeal.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)
open Cert.KernelIdeal.Gen

variable {F : FTy → Type} [FloatOps F]

/-! ## The contents between the items -/

variable (m : (ℓ : Loc nD τ sig) → Buf (Elt F) ℓ)

/-- At launch; -/
def W0 (c : Dev nD) : Valuation τ sig (Elt F) := fun b => m (c, b)
/-- with the first operand and its history reshaped; -/
def W1 (c : Dev nD) : Valuation τ sig (Elt F) := StableHlo.after hostOps0 (W0 m c)
/-- after the first operand is quantised; -/
def W2 (c : Dev nD) : Valuation τ sig (Elt F) := afterRegion (Qx.dat (W1 m) c) (W1 m c)
/-- with the second history reshaped; -/
def W3 (c : Dev nD) : Valuation τ sig (Elt F) := StableHlo.after hostOps1 (W2 m c)
/-- after the second operand is quantised; -/
def W4 (c : Dev nD) : Valuation τ sig (Elt F) := afterRegion (Qw.dat (W3 m) c) (W3 m c)
/-- with the third operand and its history reshaped; -/
def W5 (c : Dev nD) : Valuation τ sig (Elt F) := StableHlo.after hostOps2 (W4 m c)
/-- after the third operand is quantised; -/
def W6 (c : Dev nD) : Valuation τ sig (Elt F) := afterRegion (Qdy.dat (W5 m) c) (W5 m c)
/-- with its new history reshaped; -/
def W7 (c : Dev nD) : Valuation τ sig (Elt F) := StableHlo.after hostOps3 (W6 m c)
/-- after the forward product; -/
def W8 (c : Dev nD) : Valuation τ sig (Elt F) := afterRegion (Fwd.dat (W7 m) c) (W7 m c)
/-- after the product for the first operand's gradient; -/
def W9 (c : Dev nD) : Valuation τ sig (Elt F) := afterRegion (Dx.dat (W8 m) c) (W8 m c)
/-- after the product for the second operand's gradient; -/
def W10 (c : Dev nD) : Valuation τ sig (Elt F) := afterRegion (Dw.dat (W9 m) c) (W9 m c)
/-- and with the results reshaped. -/
def W11 (c : Dev nD) : Valuation τ sig (Elt F) := StableHlo.after hostOps6 (W10 m c)

/-- Every region's proof data. -/
def dats (p : Fin 6) (c : Dev nD) : Dat τ (Elt F) Unit ℕ (UR sig nD τ) ℕ (cfgs p) c :=
  match p with
  | 0 => Qx.dat (W1 m) c
  | 1 => Qw.dat (W3 m) c
  | 2 => Qdy.dat (W5 m) c
  | 3 => Fwd.dat (W7 m) c
  | 4 => Dx.dat (W8 m) c
  | 5 => Dw.dat (W9 m) c

/-! ## The items as segments -/

/-- Every TensorCore counter has the one level index; -/
def L (g : GSem nD τ sig) : Finset Unit := if g.1.2 = .tc then {()} else ∅
/-- at level 0. -/
def lv (_ : GSem nD τ sig) (_ : Unit) : ℕ := 0

local notation "𝕄" => MT nD τ sig Unit (Elt F) ℕ (UR sig nD τ) ℕ

/-- What rides beside the buffers: the core owes nothing, and the generator register. -/
def E (c : Dev nD) : sProp 𝕄 :=
  iprop((∃ W, owes (c : Thread nD τ) (0 : CellTallies nD τ sig Unit) W) ∗ (∃ r, prngReg c r) ∗ emp)

/-- A stretch of host operations from `V`. -/
def host (ops : List (HloOp τ sig (Elt F))) (hs : ops.Forall fun op => op.bufs ⊆ StableHlo.tcRefs τ sig)
    (hf : ops.Forall fun op => op.fresh = ∅)
    (V : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hs) op h))
    (fun op h => (List.forall_iff_forall_mem.mp hf) op h) V E

/-- No region owes a counter anything, and every window's counter is at level 0. -/
theorem levels (p : Fin 6) : Pipeline.LevelCut (pcfgs (F := F)) adm () L lv p (fun _ => (0 : CellTallies nD τ sig Unit)) (fun _ => 0) where
  hι c w s := by show () ∈ L _; unfold L; rw [if_pos rfl]; exact Finset.mem_singleton_self _
  hιb c w s := le_refl _
  hD c g i h := absurd h (lt_irrefl _)

variable {m} in
/-- A region whose proof data owe nothing, entered from `V`. -/
def region (p : Fin 6) (kit : Pipeline.LaunchFacts (nD := nD) (τ := τ) cfgs p)
    (hbody : ∀ c, Pipeline.BodyObligation (dats m p c) defs₀ Variants.none () Set.univ)
    (howed : ∀ c t, (dats m p c).owed t = 0) (hrec : ∀ c, (dats m p c).recorded 0 = Set.univ)
    (hshare : ∀ c w, (dats m p c).share w = fullShare)
    (hin : ∀ c, iprop(Pipeline.scopedRest (cfgs p).spec c ∗ ∃ r, prngReg c r) ⊢ (dats m p c).Φ 0)
    (hout : ∀ c, (dats m p c).Φ (Fin.last (cfgs p).N) ⊢ iprop(Pipeline.scopedRest (cfgs p).spec c ∗ ∃ r, prngReg c r))
    (V : Dev nD → Valuation τ sig (Elt F))
    (hV : ∀ c w, (dats m p c).arrAt w 0 = V c (Proc.devRef .tc (Pipeline.arrRef (cfgs p).spec w))) :
    RegionSeg (pcfgs (F := F)) adm (dats m) () defs₀ Variants.none L lv p :=
  RegionSeg.ofHeldIn (pcfgs (F := F)) adm (dats m) () defs₀ Variants.none L lv p (fun _ => 0) (Pipeline.ucRefs τ sig)
    (fun c => iprop(∃ r, prngReg c r)) (fun c => iprop(∃ r, prngReg c r)) kit.toP rfl (fun c => (hbody c).loose) howed hrec hshare hin hout
    (fun _ => 0) (levels p) (fun _ => iprop(emp)) V hV

/-- Region 0. -/
def region0 : RegionSeg (pcfgs (F := F)) adm (dats m) () defs₀ Variants.none L lv 0 :=
  region 0 launch0 (Qx.body_obligation (W1 m)) (fun _ _ => rfl) (fun _ => rfl)
    (fun c => (Qx.dat (W1 m) c).share_full fun _ => rfl) (Qx.enter (W1 m)) (fun c => Qx.leave (W1 m) c _) (W1 m) (fun _ _ => rfl)

/-- Region 1. -/
def region1 : RegionSeg (pcfgs (F := F)) adm (dats m) () defs₀ Variants.none L lv 1 :=
  region 1 launch1 (Qw.body_obligation (W3 m)) (fun _ _ => rfl) (fun _ => rfl)
    (fun c => (Qw.dat (W3 m) c).share_full fun _ => rfl) (Qw.enter (W3 m)) (fun c => Qw.leave (W3 m) c _) (W3 m) (fun _ _ => rfl)

/-- Region 2. -/
def region2 : RegionSeg (pcfgs (F := F)) adm (dats m) () defs₀ Variants.none L lv 2 :=
  region 2 launch2 (Qdy.body_obligation (W5 m)) (fun _ _ => rfl) (fun _ => rfl)
    (fun c => (Qdy.dat (W5 m) c).share_full fun _ => rfl) (Qdy.enter (W5 m)) (fun c => Qdy.leave (W5 m) c _) (W5 m) (fun _ _ => rfl)

/-- Region 3. -/
def region3 : RegionSeg (pcfgs (F := F)) adm (dats m) () defs₀ Variants.none L lv 3 :=
  region 3 launch3 (Fwd.body_obligation (W7 m)) (fun _ _ => rfl) (fun _ => rfl)
    (fun c => (Fwd.dat (W7 m) c).share_full fun _ => rfl) (fun _ => .rfl) (fun _ => .rfl) (W7 m) (fun _ _ => rfl)

/-- Region 4. -/
def region4 : RegionSeg (pcfgs (F := F)) adm (dats m) () defs₀ Variants.none L lv 4 :=
  region 4 launch4 (Dx.body_obligation (W8 m)) (fun _ _ => rfl) (fun _ => rfl)
    (fun c => (Dx.dat (W8 m) c).share_full fun _ => rfl) (fun _ => .rfl) (fun _ => .rfl) (W8 m) (fun _ _ => rfl)

/-- Region 5. -/
def region5 : RegionSeg (pcfgs (F := F)) adm (dats m) () defs₀ Variants.none L lv 5 :=
  region 5 launch5 (Dw.body_obligation (W9 m)) (fun _ _ => rfl) (fun _ => rfl)
    (fun c => (Dw.dat (W9 m) c).share_full fun _ => rfl) (fun _ => .rfl) (fun _ => .rfl) (W9 m) (fun _ _ => rfl)

end Cert.KernelIdeal.Chain
end
-- ==== Proof.Seams.lean ====
/-
  What enters a region and what leaves it: the unscoped buffers, with what rides beside them.
-/
module

public import proofs.«01_k».proof.Proof.Chain

@[expose] public section

noncomputable section

namespace Cert.KernelIdeal.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)
open Cert.KernelIdeal.Gen

variable {F : FTy → Type} [FloatOps F]

variable (m : (ℓ : Loc nD τ sig) → Buf (Elt F) ℓ)

local notation "𝕄" => MT nD τ sig Unit (Elt F) ℕ (UR sig nD τ) ℕ

variable {m} in
/-- Entering a region: the unscoped buffers at `V`, with what rides beside them. -/
theorem region_pre (p : Fin 6) (hS : Pipeline.arrRefs ((pcfgs (F := F)) p).spec ⊆ Pipeline.ucRefs τ sig) {kit hbody howed hrec hshare hin hout V hV} (c : Dev nD) :
    iprop(StableHlo.held (c : Thread nD τ) (Pipeline.ucRefs τ sig) (V c) ∗ E c)
      ⊢ (region (m := m) (F := F) p kit hbody howed hrec hshare hin hout V hV).pre c := by
  unfold region E
  exact RegionSeg.ofHeldIn_pre (pcs := pcfgs (F := F)) (a := adm) (pdats := dats m) (ι := ()) (defs₀ := defs₀) (𝒱₀ := Variants.none) (L := L) (lv := lv)
    (p := p) (D := fun _ => 0) (S := Pipeline.ucRefs τ sig) (X := fun c => iprop(∃ r, prngReg c r)) (Y := fun c => iprop(∃ r, prngReg c r))
    (R := fun _ => iprop(emp)) (W := V) hS c

variable {m} in
/-- Leaving a region: the unscoped buffers at `V'`, which is `V` with the region's results put in. -/
theorem region_post (p : Fin 6) (hS : Pipeline.arrRefs ((pcfgs (F := F)) p).spec ⊆ Pipeline.ucRefs τ sig) {kit hbody howed hrec hshare hin hout V hV} (c : Dev nD) :
    (region (m := m) (F := F) p kit hbody howed hrec hshare hin hout V hV).post c
      ⊢ iprop(StableHlo.held (c : Thread nD τ) (Pipeline.ucRefs τ sig) (afterRegion (dats m p c) (V c)) ∗ E c) := by
  unfold region E
  exact RegionSeg.ofHeldIn_post (pcs := pcfgs (F := F)) (a := adm) (pdats := dats m) (ι := ()) (defs₀ := defs₀) (𝒱₀ := Variants.none) (L := L) (lv := lv)
    (p := p) (D := fun _ => 0) (S := Pipeline.ucRefs τ sig) (X := fun c => iprop(∃ r, prngReg c r)) (Y := fun c => iprop(∃ r, prngReg c r))
    (R := fun _ => iprop(emp)) (W := V) hS c

theorem arrs0 : Pipeline.arrRefs ((pcfgs (F := F)) 0).spec ⊆ Pipeline.ucRefs τ sig := Pipeline.arrRefs_sub_ucRefs spec0 (by decide)

theorem pre0 (c : Dev nD) : iprop(StableHlo.held (c : Thread nD τ) (Pipeline.ucRefs τ sig) (W1 m c) ∗ E c) ⊢ (region0 m).pre c := by
  unfold region0
  exact region_pre 0 arrs0 c

theorem post0 (c : Dev nD) : (region0 m).post c ⊢ iprop(StableHlo.held (c : Thread nD τ) (Pipeline.ucRefs τ sig) (W2 m c) ∗ E c) := by
  unfold region0
  exact region_post 0 arrs0 c

theorem arrs1 : Pipeline.arrRefs ((pcfgs (F := F)) 1).spec ⊆ Pipeline.ucRefs τ sig := Pipeline.arrRefs_sub_ucRefs spec1 (by decide)

theorem pre1 (c : Dev nD) : iprop(StableHlo.held (c : Thread nD τ) (Pipeline.ucRefs τ sig) (W3 m c) ∗ E c) ⊢ (region1 m).pre c := by
  unfold region1
  exact region_pre 1 arrs1 c

theorem post1 (c : Dev nD) : (region1 m).post c ⊢ iprop(StableHlo.held (c : Thread nD τ) (Pipeline.ucRefs τ sig) (W4 m c) ∗ E c) := by
  unfold region1
  exact region_post 1 arrs1 c

theorem arrs2 : Pipeline.arrRefs ((pcfgs (F := F)) 2).spec ⊆ Pipeline.ucRefs τ sig := Pipeline.arrRefs_sub_ucRefs spec2 (by decide)

theorem pre2 (c : Dev nD) : iprop(StableHlo.held (c : Thread nD τ) (Pipeline.ucRefs τ sig) (W5 m c) ∗ E c) ⊢ (region2 m).pre c := by
  unfold region2
  exact region_pre 2 arrs2 c

theorem post2 (c : Dev nD) : (region2 m).post c ⊢ iprop(StableHlo.held (c : Thread nD τ) (Pipeline.ucRefs τ sig) (W6 m c) ∗ E c) := by
  unfold region2
  exact region_post 2 arrs2 c

theorem arrs3 : Pipeline.arrRefs ((pcfgs (F := F)) 3).spec ⊆ Pipeline.ucRefs τ sig := Pipeline.arrRefs_sub_ucRefs spec3 (by decide)

theorem pre3 (c : Dev nD) : iprop(StableHlo.held (c : Thread nD τ) (Pipeline.ucRefs τ sig) (W7 m c) ∗ E c) ⊢ (region3 m).pre c := by
  unfold region3
  exact region_pre 3 arrs3 c

theorem post3 (c : Dev nD) : (region3 m).post c ⊢ iprop(StableHlo.held (c : Thread nD τ) (Pipeline.ucRefs τ sig) (W8 m c) ∗ E c) := by
  unfold region3
  exact region_post 3 arrs3 c

theorem arrs4 : Pipeline.arrRefs ((pcfgs (F := F)) 4).spec ⊆ Pipeline.ucRefs τ sig := Pipeline.arrRefs_sub_ucRefs spec4 (by decide)

theorem pre4 (c : Dev nD) : iprop(StableHlo.held (c : Thread nD τ) (Pipeline.ucRefs τ sig) (W8 m c) ∗ E c) ⊢ (region4 m).pre c := by
  unfold region4
  exact region_pre 4 arrs4 c

theorem post4 (c : Dev nD) : (region4 m).post c ⊢ iprop(StableHlo.held (c : Thread nD τ) (Pipeline.ucRefs τ sig) (W9 m c) ∗ E c) := by
  unfold region4
  exact region_post 4 arrs4 c

theorem arrs5 : Pipeline.arrRefs ((pcfgs (F := F)) 5).spec ⊆ Pipeline.ucRefs τ sig := Pipeline.arrRefs_sub_ucRefs spec5 (by decide)

theorem pre5 (c : Dev nD) : iprop(StableHlo.held (c : Thread nD τ) (Pipeline.ucRefs τ sig) (W9 m c) ∗ E c) ⊢ (region5 m).pre c := by
  unfold region5
  exact region_pre 5 arrs5 c

theorem post5 (c : Dev nD) : (region5 m).post c ⊢ iprop(StableHlo.held (c : Thread nD τ) (Pipeline.ucRefs τ sig) (W10 m c) ∗ E c) := by
  unfold region5
  exact region_post 5 arrs5 c

end Cert.KernelIdeal.Chain
end
-- ==== Proof.Ends.lean ====
/-
  Every execution ends, with every unscoped buffer as the last of the contents says: the regions and the
  stretches of reshapes between them put end to end.
-/
module

public import proofs.«01_k».proof.Proof.Seams

@[expose] public section

noncomputable section

namespace Cert.KernelIdeal.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)
open Cert.KernelIdeal.Gen

variable {F : FTy → Type} [FloatOps F]

variable (m : (ℓ : Loc nD τ sig) → Buf (Elt F) ℓ)

local notation "𝕄" => MT nD τ sig Unit (Elt F) ℕ (UR sig nD τ) ℕ

/-- The program, item by item. -/
def items (_ : Dev nD) : List (Seg (pcfgs (F := F)) adm (dats m) () defs₀ Variants.none L lv) :=
  [.host (host hostOps0 hostOps0_sub hostOps0_fresh (W0 m)), .region (region0 m),
   .host (host hostOps1 hostOps1_sub hostOps1_fresh (W2 m)), .region (region1 m),
   .host (host hostOps2 hostOps2_sub hostOps2_fresh (W4 m)), .region (region2 m),
   .host (host hostOps3 hostOps3_sub hostOps3_fresh (W6 m)), .region (region3 m), .region (region4 m), .region (region5 m),
   .host (host hostOps6 hostOps6_sub hostOps6_fresh (W10 m))]

/-- At launch a core owes nothing and has its generator register. -/
theorem start (c : Dev nD) (ρ : Dev nD → PrngReg) :
    (iprop((unscopedSems0 c ∗ owes (c : Thread nD τ) (0 : CellTallies nD τ sig Unit) ∅
      ∗ Pipeline.launchCred (fun _ => (0 : CellTallies nD τ sig Unit)) c ∗ prngReg c (ρ c) ∗ emp) ∗ levAts L lv) : sProp 𝕄)
      ⊢ |={Set.univ}=> E c := by
  unfold E
  iintro ⟨⟨-, HO, -, Hp, -⟩, -⟩
  imodintro
  isplitl [HO]; · iexists _; iexact HO
  isplitl [Hp]; · iexists _; iexact Hp
  iempintro

-- the implicit arguments of the theorem on regions are found by unifying its conclusion with this one
set_option backward.isDefEq.respectTransparency.types false in
/-- Every execution ends, with every unscoped buffer as `W11` says and every counter at zero. -/
theorem run_ends (ρ : Dev nD → PrngReg) :
    θ_run defs (onTc (τ := τ) (main (F := F))) ⟨m, fun _ => 0, ρ⟩ (fun r => (∀ c : Dev nD,
      ∀ b ∈ Pipeline.ucRefs τ sig, r.2.mem (c, b) = W11 m c b) ∧ r.2.sem = fun _ => 0) := by
  refine Pipeline.θ_run_regions_kit_dev_sems (pcfgs (F := F)) adm (dats m) () cellOf_inj (emb₁ (Ix := Unit)) defs₀ Variants.none L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()),
          StableHlo.seq hostOps6 ] from rfl]
      dsimp (config := { failIfUnchanged := false }) only
      exact .rfl)
    (fun c => by simp only [items, Seg.pipes_host, Seg.pipes_region, Seg.pipes_nil]; decide) (fun _ => 0)
    (fun g h => if_neg h) (fun _ => iprop(emp))
    (initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ E c))
    (Tₙ := fun c => StableHlo.held (c : Thread nD τ) (Pipeline.ucRefs τ sig) (W11 m c))
    (hch := fun c => ⟨.rfl, pre0 m c, post0 m c, pre1 m c, post1 m c, pre2 m c, post2 m c, pre3 m c, (post3 m c).trans (pre4 m c),
      (post4 m c).trans (pre5 m c), post5 m c, sep_mono .rfl (show E c ⊢ _ by unfold E; iintro ⟨HO, -, -⟩; iexact HO)⟩)
    (hinit := ?_) (QY := fun c s => ∀ b ∈ Pipeline.ucRefs τ sig, s.mem (c, b) = W11 m c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (W0 m c))
            ∗ bigSep Finset.univ fun c : Dev nD => iprop(unscopedSems0 c ∗ owes (c : Thread nD τ) (0 : CellTallies nD τ sig Unit) ∅
              ∗ Pipeline.launchCred (fun _ => (0 : CellTallies nD τ sig Unit)) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (W0 m c)]; exact BI.Entails.refl _
    iintro ⟨H, Hla⟩
    ihave H' := hsplit $$ H
    icases H' with ⟨Hh, Hr⟩
    imod (Pipeline.initEach L lv fun c => start c ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (W11 m c) s') $$ [Hh HSI]
    · isplitl [Hh] <;> iassumption
    icases Hr with ⟨%h, HSI⟩
    imodintro
    isplitr
    · ipureintro
      exact h
    · iexact HSI

/-- A buffer that no host stretch writes and no region puts a result in ends as launched. -/
theorem kept (c : Dev nD) (r : Ref sig .tc) (h0 : r ∉ hostOps0_W) (h1 : r ∉ hostOps1_W) (h2 : r ∉ hostOps2_W) (h3 : r ∉ hostOps3_W) (h6 : r ∉ hostOps6_W)
    (k0 : ∀ w, Pipeline.arrRef spec0 w = r → (cfg0.win w).isOut = false) (k1 : ∀ w, Pipeline.arrRef spec1 w = r → (cfg1.win w).isOut = false)
    (k2 : ∀ w, Pipeline.arrRef spec2 w = r → (cfg2.win w).isOut = false) (k3 : ∀ w, Pipeline.arrRef spec3 w = r → (cfg3.win w).isOut = false)
    (k4 : ∀ w, Pipeline.arrRef spec4 w = r → (cfg4.win w).isOut = false) (k5 : ∀ w, Pipeline.arrRef spec5 w = r → (cfg5.win w).isOut = false) :
    W11 m c (Proc.devRef .tc r) = m ((c.tc : Thread nD τ).loc r) :=
  (StableHlo.after_of_writes_sub hostOps6 _ hostOps6_writes h6).trans <|
  (Pipeline.afterRegion_keeps (Dw.dat (W9 m) c) _ launch5.win.arr_inj (fun _ => rfl) r k5).trans <|
  (Pipeline.afterRegion_keeps (Dx.dat (W8 m) c) _ launch4.win.arr_inj (fun _ => rfl) r k4).trans <|
  (Pipeline.afterRegion_keeps (Fwd.dat (W7 m) c) _ launch3.win.arr_inj (fun _ => rfl) r k3).trans <|
  (StableHlo.after_of_writes_sub hostOps3 _ hostOps3_writes h3).trans <|
  (Pipeline.afterRegion_keeps (Qdy.dat (W5 m) c) _ launch2.win.arr_inj (fun _ => rfl) r k2).trans <|
  (StableHlo.after_of_writes_sub hostOps2 _ hostOps2_writes h2).trans <|
  (Pipeline.afterRegion_keeps (Qw.dat (W3 m) c) _ launch1.win.arr_inj (fun _ => rfl) r k1).trans <|
  (StableHlo.after_of_writes_sub hostOps1 _ hostOps1_writes h1).trans <|
  (Pipeline.afterRegion_keeps (Qx.dat (W1 m) c) _ launch0.win.arr_inj (fun _ => rfl) r k0).trans <|
  StableHlo.after_of_writes_sub hostOps0 _ hostOps0_writes h0

theorem kept0 (c : Dev nD) : W11 m c (Proc.devRef .tc main_arg0) = m ((c.tc : Thread nD τ).loc main_arg0) :=
  kept m c main_arg0 (by decide) (by decide) (by decide) (by decide) (by decide) (by decide) (by decide) (by decide) (by decide) (by decide) (by decide)

theorem kept1 (c : Dev nD) : W11 m c (Proc.devRef .tc main_arg1) = m ((c.tc : Thread nD τ).loc main_arg1) :=
  kept m c main_arg1 (by decide) (by decide) (by decide) (by decide) (by decide) (by decide) (by decide) (by decide) (by decide) (by decide) (by decide)

theorem kept2 (c : Dev nD) : W11 m c (Proc.devRef .tc main_arg2) = m ((c.tc : Thread nD τ).loc main_arg2) :=
  kept m c main_arg2 (by decide) (by decide) (by decide) (by decide) (by decide) (by decide) (by decide) (by decide) (by decide) (by decide) (by decide)

theorem kept3 (c : Dev nD) : W11 m c (Proc.devRef .tc main_arg3) = m ((c.tc : Thread nD τ).loc main_arg3) :=
  kept m c main_arg3 (by decide) (by decide) (by decide) (by decide) (by decide) (by decide) (by decide) (by decide) (by decide) (by decide) (by decide)

theorem kept4 (c : Dev nD) : W11 m c (Proc.devRef .tc main_arg4) = m ((c.tc : Thread nD τ).loc main_arg4) :=
  kept m c main_arg4 (by decide) (by decide) (by decide) (by decide) (by decide) (by decide) (by decide) (by decide) (by decide) (by decide) (by decide)

theorem kept5 (c : Dev nD) : W11 m c (Proc.devRef .tc main_arg5) = m ((c.tc : Thread nD τ).loc main_arg5) :=
  kept m c main_arg5 (by decide) (by decide) (by decide) (by decide) (by decide) (by decide) (by decide) (by decide) (by decide) (by decide) (by decide)

end Cert.KernelIdeal.Chain
end
-- ==== Proof.Frames.lean ====
/-
  The kernel program ends with its arguments as they were and every counter at zero, over the reals and over bits.
-/
module

public import proofs.«01_k».proof.Proof.Ends

@[expose] public section

noncomputable section

namespace Cert.KernelIdeal.Chain

open Idealize.ShloMosaic Idealize.ShloMosaic.TcCoe Idealize.SL.Sem

variable {F : FTy → Type} [FloatOps F]

variable (m : (ℓ : Loc nD τ sig) → Buf (Elt F) ℓ)

theorem in_uc (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- What every execution leaves in the argument arrays and the counters. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (in_uc main_arg0 (by decide))).trans (kept0 m c), (h.1 c _ (in_uc main_arg1 (by decide))).trans (kept1 m c),
     (h.1 c _ (in_uc main_arg2 (by decide))).trans (kept2 m c), (h.1 c _ (in_uc main_arg3 (by decide))).trans (kept3 m c),
     (h.1 c _ (in_uc main_arg4 (by decide))).trans (kept4 m c), (h.1 c _ (in_uc main_arg5 (by decide))).trans (kept5 m c)⟩, h.2⟩) (run_ends m ρ)

end Cert.KernelIdeal.Chain
end
-- ==== Proof.Bitsframe.lean ====
/-
  The program as it is compiled keeps its arguments: its claim is the one proved of the same text.
-/
module

public import proofs.«01_k».proof.Proof.Frames
public import proofs.«01_k».proof.Proof.Gen.Kernel
public import proofs.«01_k».proof.Defs

@[expose] public section

noncomputable section

namespace Cert.Proof

open Idealize.ShloMosaic Idealize.SL.Sem Idealize.ShloMosaic.TcCoe

open Cert.KernelIdeal in
/-- The claim about the arguments and the counters, of the kernel's text read over bits. -/
def FrameBits : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_bits : FrameBits := fun m ρ _ => Cert.KernelIdeal.Chain.frame m ρ

theorem same_claim : Cert.quiescent_Kernel (hKernel := Cert.Kernel.Gen.facts) = FrameBits := by sl_kernel_rfl

theorem quiescent_kernel : Cert.quiescent_Kernel (hKernel := Cert.Kernel.Gen.facts) := same_claim ▸ frame_bits

end Cert.Proof
end
-- ==== Proof.Pow.lean ====
/-
  The power of two a tensor is scaled by, over the extended reals: the integer exponent of a bound
  on the tensor's entries, the word the search over 384 lanes finds for it, and the two words whose
  values multiply to two to that exponent.
-/
module

public import Idealize.ShloMosaic.PureOps.Ideal.Laws
public import Mathlib.Analysis.SpecialFunctions.Pow.Real

@[expose] public section

noncomputable section

namespace Cert.Scale

open Idealize.ShloMosaic

/-- The exponent of `y`: one more than the integer logarithm to base two, kept between -148 and 128,
    and zero where `y` is not a positive real number. -/
def qexp (y : EReal) : ℤ :=
  if 0 < y ∧ y < ⊤ then max (-148) (min 128 (⌊Real.log y.toReal / Real.log 2⌋ + 1)) else 0

theorem qexp_mem (y : EReal) : -148 ≤ qexp y ∧ qexp y ≤ 128 := by
  unfold qexp; split <;> omega

/-- The upper of the two words whose values multiply to two to `x`. -/
def hiWord (x : BitVec 32) : BitVec 32 :=
  IntOp.shli .vector (IntOp.addi (IntOp.shrsi .vector x 1#32) 127#32) 23#32

/-- The lower of the two words. -/
def loWord (x : BitVec 32) : BitVec 32 :=
  IntOp.shli .vector (IntOp.addi (IntOp.subi x (IntOp.shrsi .vector x 1#32)) 127#32) 23#32

/-- The product of the two words' values. -/
def powWord (x : BitVec 32) : EReal :=
  Ideal.ieee 8 23 (hiWord x) * Ideal.ieee 8 23 (loWord x)

/-- A word with a clear sign, a clear significand and exponent field `n + 127` is worth two to `n`. -/
theorem ieee_of_fields (b : BitVec 32) (n : ℤ) (hs : (b.extractLsb' 31 1 == 1#1) = false)
    (he : ((b.extractLsb' 23 8).toNat : ℤ) = n + 127) (hf : (b.extractLsb' 0 23).toNat = 0)
    (h0 : 0 < n + 127) (h1 : n + 127 < 255) :
    Ideal.ieee 8 23 b = (((2 : ℝ) ^ n : ℝ) : EReal) := by
  unfold Ideal.ieee
  have e1 : (b.extractLsb' 23 8).toNat ≠ 2 ^ 8 - 1 := by intro h; rw [h] at he; norm_num at he; omega
  have e0 : (b.extractLsb' 23 8).toNat ≠ 0 := by intro h; rw [h] at he; norm_num at he; omega
  simp only [show 8 + 23 = 31 from rfl, hs, hf]
  rw [if_neg e1, if_neg e0, he]
  congr 1
  have : (2 : ℝ) ^ (n + 127 - (2 ^ (8 - 1) - 1) - (23 : ℕ) : ℤ) * 2 ^ 23 = 2 ^ n := by
    rw [← zpow_natCast (2 : ℝ) 23, ← zpow_add₀ (by norm_num)]
    congr 1; norm_num
  rw [← this]; norm_num; ring

/-- The fields of the two words at exponent `z`. -/
def Fields (z : ℤ) : Prop :=
  ((hiWord (BitVec.ofInt 32 z)).extractLsb' 31 1 == 1#1) = false
    ∧ ((loWord (BitVec.ofInt 32 z)).extractLsb' 31 1 == 1#1) = false
    ∧ (((hiWord (BitVec.ofInt 32 z)).extractLsb' 23 8).toNat : ℤ) = z / 2 + 127
    ∧ (((loWord (BitVec.ofInt 32 z)).extractLsb' 23 8).toNat : ℤ) = (z - z / 2) + 127
    ∧ ((hiWord (BitVec.ofInt 32 z)).extractLsb' 0 23).toNat = 0
    ∧ ((loWord (BitVec.ofInt 32 z)).extractLsb' 0 23).toNat = 0

instance (z : ℤ) : Decidable (Fields z) := by unfold Fields; infer_instance

/-- They hold for every exponent in reach. -/
theorem fields : ∀ k : Fin 401, Fields ((k.val : ℤ) - 200) := by decide +kernel

/-- The product of the two words' values is two to the exponent. -/
theorem powWord_ofInt (z : ℤ) (h0 : -200 ≤ z) (h1 : z ≤ 200) :
    powWord (BitVec.ofInt 32 z) = (((2 : ℝ) ^ z : ℝ) : EReal) := by
  have hF : Fields z := by
    have h := fields ⟨(z + 200).toNat, by omega⟩
    have e : (((z + 200).toNat : ℕ) : ℤ) - 200 = z := by omega
    exact e ▸ h
  unfold Fields at hF
  have hh := ieee_of_fields (hiWord (BitVec.ofInt 32 z)) (z / 2) hF.1 hF.2.2.1 hF.2.2.2.2.1 (by omega) (by omega)
  have hl := ieee_of_fields (loWord (BitVec.ofInt 32 z)) (z - z / 2) hF.2.1 hF.2.2.2.1 hF.2.2.2.2.2 (by omega) (by omega)
  have hz : z / 2 + (z - z / 2) = z := by omega
  unfold powWord
  rw [hh, hl, ← EReal.coe_mul, ← zpow_add₀ (by norm_num : (2 : ℝ) ≠ 0), hz]

/-- The word of one lane's candidate: the lane's exponent plus one where two to it is at most `y`. -/
def lane (n : ℕ) (y : EReal) : BitVec 32 :=
  Scalar.select (Ideal.cmp .ole (powWord (IntOp.minsi (IntOp.subi (BitVec.ofNat 32 n) 149#32) 127#32)) y)
    (IntOp.addi (IntOp.minsi (IntOp.subi (BitVec.ofNat 32 n) 149#32) 127#32) 1#32) 4294967148#32

theorem lane_words (n : Fin 384) :
    IntOp.minsi (IntOp.subi (BitVec.ofNat 32 n.val) 149#32) 127#32
        = BitVec.ofInt 32 (min ((n.val : ℤ) - 149) 127)
      ∧ (IntOp.addi (IntOp.minsi (IntOp.subi (BitVec.ofNat 32 n.val) 149#32) 127#32) 1#32).toInt
        = min ((n.val : ℤ) - 149) 127 + 1 := by
  revert n; decide +kernel

/-- The value of a lane's candidate. -/
theorem lane_toInt (n : Fin 384) (y : EReal) :
    (lane n.val y).toInt
      = if (((2 : ℝ) ^ (min ((n.val : ℤ) - 149) 127) : ℝ) : EReal) ≤ y
        then min ((n.val : ℤ) - 149) 127 + 1 else -148 := by
  obtain ⟨a, b⟩ := lane_words n
  unfold lane
  rw [show powWord (IntOp.minsi (IntOp.subi (BitVec.ofNat 32 n.val) 149#32) 127#32)
      = (((2 : ℝ) ^ (min ((n.val : ℤ) - 149) 127) : ℝ) : EReal) by
    rw [a]; exact powWord_ofInt _ (by omega) (by omega)]
  unfold Scalar.select Ideal.cmp
  by_cases h : (((2 : ℝ) ^ (min ((n.val : ℤ) - 149) 127) : ℝ) : EReal) ≤ y
  · rw [if_pos h, if_pos (by simp [h]), b]
  · rw [if_neg h, if_neg (by simp [h])]; decide

/-- A fold of the signed maximum, as integers. -/
theorem toInt_fold_maxsi {ι : Type*} [DecidableEq ι] (s : Finset ι) (f : ι → BitVec 32) (b : BitVec 32) :
    (s.fold IKind.maxsi.op b f).toInt = s.fold max b.toInt (fun i => (f i).toInt) := by
  induction s using Finset.induction_on with
  | empty => rfl
  | insert a s ha ih =>
    rw [Finset.fold_insert ha, Finset.fold_insert ha, ← ih]
    show (IntOp.maxsi _ _).toInt = _
    unfold IntOp.maxsi
    split_ifs with h
    · rw [BitVec.slt_iff_toInt_lt] at h; omega
    · rw [BitVec.slt_iff_toInt_lt] at h; omega

/-- A positive real's integer logarithm to base two: two to `z` is at most it exactly when `z` is at
    most the logarithm. -/
theorem zpow_le_iff (r : ℝ) (hr : 0 < r) (z : ℤ) :
    (2 : ℝ) ^ z ≤ r ↔ z ≤ ⌊Real.log r / Real.log 2⌋ := by
  have h2 : 0 < Real.log 2 := Real.log_pos (by norm_num)
  rw [Int.le_floor, le_div_iff₀ h2, ← Real.log_zpow, Real.log_le_log_iff (by positivity) hr]

/-- The largest candidate over the 384 lanes is the exponent. -/
theorem fold_lane {ι : Type*} [DecidableEq ι] (s : Finset ι) (p : ι → Fin 384)
    (hp : ∀ k, ∃ i ∈ s, p i = k) (y : EReal) (h : 0 < y ∧ y < ⊤) :
    s.fold IKind.maxsi.op 2147483648#32 (fun i => lane (p i).val y) = BitVec.ofInt 32 (qexp y) := by
  have hq := qexp_mem y
  apply BitVec.eq_of_toInt_eq
  rw [toInt_fold_maxsi, BitVec.toInt_ofInt, Int.bmod_eq_of_le (by norm_num; omega) (by norm_num; omega)]
  simp only [lane_toInt]
  lift y to ℝ using ⟨h.2.ne, (lt_trans EReal.bot_lt_zero h.1).ne'⟩
  have hr : 0 < y := by exact_mod_cast h.1
  simp only [EReal.coe_le_coe_iff, zpow_le_iff y hr]
  have hqe : qexp (y : EReal) = max (-148) (min 128 (⌊Real.log y / Real.log 2⌋ + 1)) := by
    unfold qexp; rw [if_pos h, EReal.toReal_coe]
  rw [hqe]
  generalize ⌊Real.log y / Real.log 2⌋ = L
  apply le_antisymm
  · rw [Finset.fold_max_le]
    refine ⟨by rw [show (2147483648#32 : BitVec 32).toInt = -2147483648 by decide]; omega, fun i _ => ?_⟩
    split_ifs <;> omega
  · rw [Finset.le_fold_max]
    right
    by_cases hL : -149 ≤ L
    · obtain ⟨i, hi, e⟩ := hp ⟨(min L 127 + 149).toNat, by omega⟩
      refine ⟨i, hi, ?_⟩
      rw [e]
      have : (((min L 127 + 149).toNat : ℕ) : ℤ) = min L 127 + 149 := by omega
      simp only [this]
      rw [if_pos (by omega)]; omega
    · obtain ⟨i, hi, e⟩ := hp ⟨0, by omega⟩
      refine ⟨i, hi, ?_⟩
      rw [e]
      simp only
      rw [if_neg (by norm_num; omega)]; omega

end Cert.Scale
end
-- ==== Proof.Model.lean ====
/-
  What quantising a tensor comes to over the extended reals, at one entry: the bound read off the history,
  the exponent of its power of two, the code of an entry, the largest absolute value, and the history with
  that value put behind. With the readings of the reductions these are compared through: a maximum is at
  most `b` exactly when every entry it is taken over is.
-/
module

public import proofs.«01_k».proof.Proof.Pow
public import Idealize.ShloMosaic.PureOps.Reduce
public import Idealize.ShloMosaic.Lib.IdealHost

@[expose] public section

noncomputable section

namespace Cert.Scale

open Idealize.ShloMosaic

/-- The absolute value. -/
def absE (x : EReal) : EReal := max x (-x)

/-- The value of a word read as an f32. -/
abbrev word (b : BitVec 32) : EReal := Ideal.ieee 8 23 b

/-- Two to an integer power. -/
def two (z : ℤ) : EReal := (((2 : ℝ) ^ z : ℝ) : EReal)

/-- The bound a history of maxima `a` gives at the reciprocal `k` of the format's largest value. -/
def bound (k : BitVec 32) (a : EReal) : EReal := absE (a * word k)

/-- The exponent of the power of two the tensor is divided by. -/
def expo (k : BitVec 32) (a : EReal) : ℤ := qexp (bound k a)

/-- The code of the entry `x`: scaled, and kept between the format's bounds. -/
def code (lo hi : BitVec 32) (e : ℤ) (x : EReal) : EReal := min (word hi) (max (word lo) (x * two (-e)))

theorem word_zero : word 0#32 = 0 := by
  have := Ideal.ofBits_zero_f32
  exact this

theorem word_bot : word 0xFF800000#32 = ⊥ := by
  unfold word Ideal.ieee
  rw [if_pos (by decide), if_pos (by decide), if_pos (by decide)]

theorem word_top : word 0x7F800000#32 = ⊤ := by
  unfold word Ideal.ieee
  rw [if_pos (by decide), if_pos (by decide), if_neg (by decide)]

/-- The word of a power of two. -/
theorem word_two_pow (b : BitVec 32) (n : ℤ) (hs : (b.extractLsb' 31 1 == 1#1) = false)
    (he : ((b.extractLsb' 23 8).toNat : ℤ) = n + 127) (hf : (b.extractLsb' 0 23).toNat = 0)
    (h0 : 0 < n + 127) (h1 : n + 127 < 255) : word b = two n := ieee_of_fields b n hs he hf h0 h1

theorem word_one : word 0x3F800000#32 = ((1 : ℝ) : EReal) := by
  rw [word_two_pow _ 0 (by decide) (by decide) (by decide) (by decide) (by decide)]; simp [two]

theorem word_two : word 0x40000000#32 = ((2 : ℝ) : EReal) := by
  rw [word_two_pow _ 1 (by decide) (by decide) (by decide) (by decide) (by decide)]; simp [two]

theorem word_128 : word 0x43000000#32 = ((128 : ℝ) : EReal) := by
  rw [word_two_pow _ 7 (by decide) (by decide) (by decide) (by decide) (by decide)]; norm_num [two]

theorem word_neg148 : word 0xC3140000#32 = ((-148 : ℝ) : EReal) := by
  unfold word Ideal.ieee
  simp only [show ((0xC3140000#32).extractLsb' 23 8).toNat = 134 by decide,
    show ((0xC3140000#32).extractLsb' 0 23).toNat = 1310720 by decide,
    show ((0xC3140000#32).extractLsb' (8 + 23) 1 == 1#1) = true by decide]
  rw [if_neg (by norm_num), if_neg (by norm_num), if_pos trivial]
  congr 1
  norm_num

/-! ## The reductions -/

variable {s t : Shape} {axes : List (Fin s.rank)}

/-- A maximum over some axes is at most `b` exactly when the entries it is taken over are. -/
theorem multiReduction_le_iff {φ : FTy} (src : FVec Ideal s φ) (acc : BitVec φ.bits) (h : s.Reduces axes t)
    (hφ : FKind.Formats φ) (hacc : acc = FKind.maximumf.neutral φ hφ) (j : t.Idx) (b : EReal)
    (hb : (FloatOps.ofBits (F := Ideal) φ acc : EReal) = ⊥) :
    (multiReduction .maximumf axes t src acc h hφ hacc j : EReal) ≤ b ↔ ∀ i, h.drop i = j → (src i : EReal) ≤ b := by
  rw [multiReduction_maximumf_eq_fold]
  show (Finset.fold max _ _ _ : EReal) ≤ b ↔ _
  rw [Finset.fold_max_le, hb]
  simp

/-- The same for the host's reduction, from an initial value of minus infinity. -/
theorem hostReduce_le_iff {φ : FTy} {u : Shape} (src : FVec Ideal s φ) (v : FVec Ideal u φ) (h : s.ReducesTo axes t)
    (hu : 0 < u.numel) (j : t.Idx) (b : EReal) (hb : ∀ i, (v i : EReal) = ⊥) :
    (Host.reduce (FloatOps.maximumf (F := Ideal) (φ := φ)) src v h hu j : EReal) ≤ b ↔ ∀ i, h.drop i = j → (src i : EReal) ≤ b := by
  rw [Host.reduce_eq_fold]
  show (Finset.fold max _ _ _ : EReal) ≤ b ↔ _
  rw [Finset.fold_max_le, hb]
  simp

end Cert.Scale
end
-- ==== Proof.Spec.lean ====
/-
  The twelve results over the extended reals, as functions of the six arguments: what the kernel and the
  reference are both shown to leave. With the reshapes between a tensor of rank three and its flattening.
-/
module

public import proofs.«01_k».proof.Proof.Model
public import Idealize.ShloMosaic.Lib.Pipeline.Value

@[expose] public section

noncomputable section

namespace Cert.Scale

open Idealize.ShloMosaic Idealize.ShloMosaic.ValueIdx

/-- The activations' shape, -/
abbrev Tx : Shape := ⟨3, ![4, 3072, 4096]⟩
/-- the weights', -/
abbrev Tw : Shape := ⟨2, ![4096, 8192]⟩
/-- the incoming gradient's -/
abbrev Ty : Shape := ⟨3, ![4, 3072, 8192]⟩
/-- and a history's. -/
abbrev Th : Shape := ⟨1, ![16]⟩

/-- The exponent of a tensor's scale, from its history. -/
def exponent (k : BitVec 32) (h : Th.Idx → EReal) : ℤ := expo k (⨆ j, h j)

/-- The codes of a tensor in the narrower format, -/
def codes8 {s : Shape} (h : Th.Idx → EReal) (x : s.Idx → EReal) : s.Idx → EReal :=
  fun i => code 0xC3E00000#32 0x43E00000#32 (exponent 0x3B124925#32 h) (x i)
/-- with its scale; -/
def scale8 (h : Th.Idx → EReal) : EReal := two (exponent 0x3B124925#32 h)
/-- and in the wider one, -/
def codes16 {s : Shape} (h : Th.Idx → EReal) (x : s.Idx → EReal) : s.Idx → EReal :=
  fun i => code 0xC7600000#32 0x47600000#32 (exponent 0x37924925#32 h) (x i)
/-- with its scale. -/
def scale16 (h : Th.Idx → EReal) : EReal := two (exponent 0x37924925#32 h)

/-- The history with the tensor's largest absolute value behind its last fifteen entries. -/
def history {s : Shape} (h : Th.Idx → EReal) (x : s.Idx → EReal) : Th.Idx → EReal :=
  fun i => if hi : (i 0).val = 15 then ⨆ j, absE (x j)
    else h (ix1 ⟨(i 0).val + 1, by have : (i 0).val < 16 := (i 0).isLt; omega⟩)

/-- The forward product; -/
def forward (x : Tx.Idx → EReal) (w : Tw.Idx → EReal) (s : EReal) : Ty.Idx → EReal :=
  fun i => (∑ k : Fin 4096, x (ix3 (i 0) (i 1) k) * w (ix2 k (i 2))) * s
/-- the activations' gradient; -/
def gradX (dy : Ty.Idx → EReal) (w : Tw.Idx → EReal) (s : EReal) : Tx.Idx → EReal :=
  fun i => (∑ k : Fin 8192, dy (ix3 (i 0) (i 1) k) * w (ix2 (i 2) k)) * s
/-- and the weights'. -/
def gradW (x : Tx.Idx → EReal) (dy : Ty.Idx → EReal) (s : EReal) : Tw.Idx → EReal :=
  fun i => (∑ a : Fin 4, ∑ r : Fin 3072, x (ix3 a r (i 0)) * dy (ix3 a r (i 1))) * s

/-- The row of the flattening. -/
def flat (a : Fin 4) (r : Fin 3072) : Fin 12288 := ⟨a.val * 3072 + r.val, by omega⟩

variable {α : Type} {n : ℕ}

/-- A flat tensor read under its rank-three shape, -/
theorem cast3 (x : (⟨2, ![12288, n]⟩ : Shape).Idx → α) (h : (⟨2, ![12288, n]⟩ : Shape).ShapeCasts ⟨3, ![4, 3072, n]⟩)
    (i : (⟨3, ![4, 3072, n]⟩ : Shape).Idx) : shapeCast ⟨3, ![4, 3072, n]⟩ x h i = x (ix2 (flat (i 0) (i 1)) (i 2)) := by
  refine shapeCast_apply x h i _ ?_
  rw [Shape.rowMajor_val_two, Shape.rowMajor_val_three]
  show ((i 0).val * 3072 + (i 1).val) * n + (i 2).val = ((i 0).val * 3072 + (i 1).val) * n + (i 2).val
  rfl

/-- and the other way around. -/
theorem cast2 (x : (⟨3, ![4, 3072, n]⟩ : Shape).Idx → α) (h : (⟨3, ![4, 3072, n]⟩ : Shape).ShapeCasts ⟨2, ![12288, n]⟩)
    (a : Fin 4) (r : Fin 3072) (k : Fin n) : shapeCast ⟨2, ![12288, n]⟩ x h (ix2 (flat a r) k) = x (ix3 a r k) := by
  refine shapeCast_apply x h _ _ ?_
  rw [Shape.rowMajor_val_two, Shape.rowMajor_val_three]
  show (a.val * 3072 + r.val) * n + k.val = (a.val * 3072 + r.val) * n + k.val
  rfl

/-- A reshape loses no entry: the supremum stays. -/
theorem iSup_cast {s t : Shape} (x : s.Idx → EReal) (h : s.ShapeCasts t) : (⨆ j, shapeCast t x h j) = ⨆ j, x j :=
  (Shape.reshapeEquiv h).iSup_comp (g := x)

/-- The sum over the flattening's rows is the double sum. -/
theorem sum_flat (f : Fin 12288 → EReal) : ∑ q, f q = ∑ a : Fin 4, ∑ r : Fin 3072, f (flat a r) := by
  rw [← Equiv.sum_comp (finProdFinEquiv (m := 4) (n := 3072)) f, Fintype.sum_prod_type]
  exact Finset.sum_congr rfl fun a _ => Finset.sum_congr rfl fun r _ =>
    congrArg f (Fin.ext (by show r.val + 3072 * a.val = a.val * 3072 + r.val; omega))

end Cert.Scale

end
-- ==== Proof.Reads.lean ====
/-
  What the reshapes between the six calls leave, and what each item of the program leaves alone.
-/
module

public import proofs.«01_k».proof.Proof.Chain
public import Idealize.ShloMosaic.Lib.StableHlo.RunRead
public import Idealize.ShloMosaic.Lib.Pipeline.RegionArraysS

@[expose] public section

noncomputable section

namespace Cert.KernelIdeal.Chain

open Idealize.ShloMosaic Idealize.ShloMosaic.TcCoe
open Cert.KernelIdeal.Gen

variable {F : FTy → Type} [FloatOps F]

section Reshapes

variable (V : Valuation τ sig (Elt F))

theorem read_v0 : StableHlo.after (hostOps0 (F := F)) V (Proc.devRef .tc main_v0) = shapeCast S12288x4096 (V (Proc.devRef .tc main_arg0)) shapeCasts_S4x3072x4096_S12288x4096 := by
  after_reads_simp
  rfl
theorem read_v1 : StableHlo.after (hostOps0 (F := F)) V (Proc.devRef .tc main_v1) = shapeCast S1x16 (V (Proc.devRef .tc main_arg3)) shapeCasts_S16_S1x16 := by
  after_reads_simp
  rfl
theorem read_v3 : StableHlo.after (hostOps1 (F := F)) V (Proc.devRef .tc main_v3) = shapeCast S16 (V (Proc.devRef .tc main_v2_2)) shapeCasts_S1x16_S16 := by
  after_reads_simp
  rfl
theorem read_v4 : StableHlo.after (hostOps1 (F := F)) V (Proc.devRef .tc main_v4) = shapeCast S1x16 (V (Proc.devRef .tc main_arg4)) shapeCasts_S16_S1x16 := by
  after_reads_simp
  rfl
theorem read_v6 : StableHlo.after (hostOps2 (F := F)) V (Proc.devRef .tc main_v6) = shapeCast S16 (V (Proc.devRef .tc main_v5_2)) shapeCasts_S1x16_S16 := by
  after_reads_simp
  rfl
theorem read_v7 : StableHlo.after (hostOps2 (F := F)) V (Proc.devRef .tc main_v7) = shapeCast S12288x8192 (V (Proc.devRef .tc main_arg2)) shapeCasts_S4x3072x8192_S12288x8192 := by
  after_reads_simp
  rfl
theorem read_v8 : StableHlo.after (hostOps2 (F := F)) V (Proc.devRef .tc main_v8) = shapeCast S1x16 (V (Proc.devRef .tc main_arg5)) shapeCasts_S16_S1x16 := by
  after_reads_simp
  rfl
theorem read_v10 : StableHlo.after (hostOps3 (F := F)) V (Proc.devRef .tc main_v10) = shapeCast S16 (V (Proc.devRef .tc main_v9_2)) shapeCasts_S1x16_S16 := by
  after_reads_simp
  rfl
theorem read_v14 : StableHlo.after (hostOps6 (F := F)) V (Proc.devRef .tc main_v14) = shapeCast S4x3072x8192 (V (Proc.devRef .tc main_v11)) shapeCasts_S12288x8192_S4x3072x8192 := by
  after_reads_simp
  rfl
theorem read_v15 : StableHlo.after (hostOps6 (F := F)) V (Proc.devRef .tc main_v15) = shapeCast S4x3072x4096 (V (Proc.devRef .tc main_v12)) shapeCasts_S12288x4096_S4x3072x4096 := by
  after_reads_simp
  rfl
theorem read_v16 : StableHlo.after (hostOps6 (F := F)) V (Proc.devRef .tc main_v16) = shapeCast S4x3072x4096 (V (Proc.devRef .tc main_v2_0)) shapeCasts_S12288x4096_S4x3072x4096 := by
  after_reads_simp
  rfl
theorem read_v17 : StableHlo.after (hostOps6 (F := F)) V (Proc.devRef .tc main_v17) = shapeCast S_ (V (Proc.devRef .tc main_v2_1)) shapeCasts_S1x1_S_ := by
  after_reads_simp
  rfl
theorem read_v18 : StableHlo.after (hostOps6 (F := F)) V (Proc.devRef .tc main_v18) = shapeCast S_ (V (Proc.devRef .tc main_v5_1)) shapeCasts_S1x1_S_ := by
  after_reads_simp
  rfl
theorem read_v19 : StableHlo.after (hostOps6 (F := F)) V (Proc.devRef .tc main_v19) = shapeCast S4x3072x8192 (V (Proc.devRef .tc main_v9_0)) shapeCasts_S12288x8192_S4x3072x8192 := by
  after_reads_simp
  rfl
theorem read_v20 : StableHlo.after (hostOps6 (F := F)) V (Proc.devRef .tc main_v20) = shapeCast S_ (V (Proc.devRef .tc main_v9_1)) shapeCasts_S1x1_S_ := by
  after_reads_simp
  rfl

end Reshapes

section Kept

variable (m : (ℓ : Loc nD τ sig) → Buf (Elt F) ℓ) (c : Dev nD) (r : Ref sig .tc)

theorem keep1 (h : r ∉ hostOps0_W) : W1 m c (Proc.devRef .tc r) = m ((c.tc : Thread nD τ).loc r) :=
  StableHlo.after_of_writes_sub hostOps0 _ hostOps0_writes h
theorem keep2 (h : ∀ w, Pipeline.arrRef spec0 w = r → (cfg0.win w).isOut = false) : W2 m c (Proc.devRef .tc r) = W1 m c (Proc.devRef .tc r) :=
  Pipeline.afterRegion_keeps (Qx.dat (W1 m) c) _ launch0.win.arr_inj (fun _ => rfl) r h
theorem keep3 (h : r ∉ hostOps1_W) : W3 m c (Proc.devRef .tc r) = W2 m c (Proc.devRef .tc r) :=
  StableHlo.after_of_writes_sub hostOps1 _ hostOps1_writes h
theorem keep4 (h : ∀ w, Pipeline.arrRef spec1 w = r → (cfg1.win w).isOut = false) : W4 m c (Proc.devRef .tc r) = W3 m c (Proc.devRef .tc r) :=
  Pipeline.afterRegion_keeps (Qw.dat (W3 m) c) _ launch1.win.arr_inj (fun _ => rfl) r h
theorem keep5 (h : r ∉ hostOps2_W) : W5 m c (Proc.devRef .tc r) = W4 m c (Proc.devRef .tc r) :=
  StableHlo.after_of_writes_sub hostOps2 _ hostOps2_writes h
theorem keep6 (h : ∀ w, Pipeline.arrRef spec2 w = r → (cfg2.win w).isOut = false) : W6 m c (Proc.devRef .tc r) = W5 m c (Proc.devRef .tc r) :=
  Pipeline.afterRegion_keeps (Qdy.dat (W5 m) c) _ launch2.win.arr_inj (fun _ => rfl) r h
theorem keep7 (h : r ∉ hostOps3_W) : W7 m c (Proc.devRef .tc r) = W6 m c (Proc.devRef .tc r) :=
  StableHlo.after_of_writes_sub hostOps3 _ hostOps3_writes h
theorem keep8 (h : ∀ w, Pipeline.arrRef spec3 w = r → (cfg3.win w).isOut = false) : W8 m c (Proc.devRef .tc r) = W7 m c (Proc.devRef .tc r) :=
  Pipeline.afterRegion_keeps (Fwd.dat (W7 m) c) _ launch3.win.arr_inj (fun _ => rfl) r h
theorem keep9 (h : ∀ w, Pipeline.arrRef spec4 w = r → (cfg4.win w).isOut = false) : W9 m c (Proc.devRef .tc r) = W8 m c (Proc.devRef .tc r) :=
  Pipeline.afterRegion_keeps (Dx.dat (W8 m) c) _ launch4.win.arr_inj (fun _ => rfl) r h
theorem keep10 (h : ∀ w, Pipeline.arrRef spec5 w = r → (cfg5.win w).isOut = false) : W10 m c (Proc.devRef .tc r) = W9 m c (Proc.devRef .tc r) :=
  Pipeline.afterRegion_keeps (Dw.dat (W9 m) c) _ launch5.win.arr_inj (fun _ => rfl) r h
theorem keep11 (h : r ∉ hostOps6_W) : W11 m c (Proc.devRef .tc r) = W10 m c (Proc.devRef .tc r) :=
  StableHlo.after_of_writes_sub hostOps6 _ hostOps6_writes h

/-- What an array holds after the first quantise call it still holds after the third one's reshape, -/
theorem keep3to7 (h1 : r ∉ hostOps1_W) (h2 : r ∉ hostOps2_W) (h3 : r ∉ hostOps3_W)
    (k1 : ∀ w, Pipeline.arrRef spec1 w = r → (cfg1.win w).isOut = false) (k2 : ∀ w, Pipeline.arrRef spec2 w = r → (cfg2.win w).isOut = false) :
    W7 m c (Proc.devRef .tc r) = W2 m c (Proc.devRef .tc r) :=
  (keep7 m c r h3).trans <| (keep6 m c r k2).trans <| (keep5 m c r h2).trans <| (keep4 m c r k1).trans <| keep3 m c r h1
/-- after the second one likewise, -/
theorem keep5to7 (h2 : r ∉ hostOps2_W) (h3 : r ∉ hostOps3_W) (k2 : ∀ w, Pipeline.arrRef spec2 w = r → (cfg2.win w).isOut = false) :
    W7 m c (Proc.devRef .tc r) = W4 m c (Proc.devRef .tc r) :=
  (keep7 m c r h3).trans <| (keep6 m c r k2).trans <| keep5 m c r h2
/-- and the products leave it alone. -/
theorem keep8to10 (k3 : ∀ w, Pipeline.arrRef spec3 w = r → (cfg3.win w).isOut = false)
    (k4 : ∀ w, Pipeline.arrRef spec4 w = r → (cfg4.win w).isOut = false) (k5 : ∀ w, Pipeline.arrRef spec5 w = r → (cfg5.win w).isOut = false) :
    W10 m c (Proc.devRef .tc r) = W7 m c (Proc.devRef .tc r) :=
  (keep10 m c r k5).trans <| (keep9 m c r k4).trans <| keep8 m c r k3

end Kept

end Cert.KernelIdeal.Chain

end
-- ==== Proof.Quant.lean ====
/-
  What the quantise kernels compute over the extended reals, at one entry: the exponent of the scale as an
  integer, the two powers of two, the maxima and the shifted history.
-/
module

public import proofs.«01_k».proof.Proof.Model
public import proofs.«01_k».proof.Proof.Cell
public import Idealize.ShloMosaic.Lib.KernelVsHost

@[expose] public section

noncomputable section

namespace Cert.KernelIdeal

open Idealize.ShloMosaic Cert.Scale Idealize.ShloMosaic.ValueIdx
open Cert.KernelIdeal.Gen

theorem idx11 (i : S1x1.Idx) : i = o11 := by
  funext a
  have h1 : S1x1.size a = 1 := by fin_cases a <;> rfl
  have := (i a).isLt
  have := (o11 a).isLt
  exact Fin.ext (by omega)

theorem idx1 (i j : S1.Idx) : i = j := by
  funext a
  have h1 : S1.size a = 1 := by fin_cases a; rfl
  have := (i a).isLt
  have := (j a).isLt
  exact Fin.ext (by omega)

/-- The one index of a one-entry array. -/
def o1 : S1.Idx := Shape.Idx.first (Nat.one_pos)

/-- The largest entry of a history. -/
def top (h : FVec Ideal S1x16 .f32) : EReal := ⨆ j, (h j : EReal)

theorem pay4_apply (h : FVec Ideal S1x16 .f32) (i : S1x1.Idx) : (k0_pay4 (F := Ideal) h i : EReal) = top h := by
  refine eq_of_forall_ge_iff fun b => ?_
  unfold k0_pay4 k0_pay3
  dsimp only
  rw [shapeCast_apply _ _ i o1 (by rw [idx11 i]; decide), shapeCast_self]
  refine (multiReduction_le_iff _ _ reduces_S1x16_S1 _ rfl o1 b word_bot).trans ?_
  rw [top, iSup_le_iff]
  exact ⟨fun hb j => hb j (idx1 _ _), fun hb j _ => hb j⟩

/-- The integer exponents, from the bounds `y`: the largest candidate over the lanes. -/
def lanes (y : FVec Ideal S1x1 .f32) : IVec S1x1 32 :=
  have v6 : IVec S1x384 32 := iota .tc S1x384 32 [1] iota_S1x384_d1_w32
  have v7 : IVec S1x384 32 := broadcast S1x384 149#32
  have v8 : IVec S1x384 32 := subi v6 v7
  have v10 : IVec S1x384 32 := broadcast S1x384 127#32
  have v11 : IVec S1x384 32 := minsi v8 v10
  have v12 : IVec S1x384 32 := broadcast S1x384 1#32
  have v13 : IVec S1x384 32 := shrsi v11 v12
  have v14 : IVec S1x384 32 := broadcast S1x384 127#32
  have v15 : IVec S1x384 32 := addi v13 v14
  have v16 : IVec S1x384 32 := broadcast S1x384 23#32
  have v17 : IVec S1x384 32 := shli v15 v16
  have v18 : FVec Ideal S1x384 .f32 := bitcastToFloat .f32 v17
  have v19 : IVec S1x384 32 := subi v11 v13
  have v20 : IVec S1x384 32 := broadcast S1x384 127#32
  have v21 : IVec S1x384 32 := addi v19 v20
  have v22 : IVec S1x384 32 := broadcast S1x384 23#32
  have v23 : IVec S1x384 32 := shli v21 v22
  have v24 : FVec Ideal S1x384 .f32 := bitcastToFloat .f32 v23
  have v25 : FVec Ideal S1x384 .f32 := mulf v18 v24
  have v26 : FVec Ideal S1x384 .f32 := broadcastTo S1x384 y broadcasts_S1x1_S1x384
  have v27 : IVec S1x384 1 := cmpf .ole v25 v26
  have v28 : IVec S1x384 32 := broadcast S1x384 127#32
  have v29 : IVec S1x384 32 := minsi v8 v28
  have v30 : IVec S1x384 32 := broadcast S1x384 1#32
  have v31 : IVec S1x384 32 := addi v29 v30
  have v32 : IVec S1x384 32 := broadcast S1x384 4294967148#32
  have v33 : IVec S1x384 32 := select v27 v31 v32
  have v34 : IVec S1 32 := multiReductionI .maxsi [1] S1 v33 2147483648#32 reduces_S1x384_S1 rfl
  have v35 : IVec S1x1 32 := shapeCast S1x1 v34 shapeCasts_S1_S1x1
  v35

/-- Whether the bounds are positive real numbers. -/
def live (y : FVec Ideal S1x1 .f32) : IVec S1x1 1 :=
  have cst_8 : Ideal .f32 := Scalar.ofBits .f32 0x00000000#32
  have v36 : FVec Ideal S1x1 .f32 := broadcast S1x1 cst_8
  have v37 : IVec S1x1 1 := cmpf .ogt y v36
  have cst_9 : Ideal .f32 := Scalar.ofBits .f32 0x7F800000#32
  have v38 : FVec Ideal S1x1 .f32 := broadcast S1x1 cst_9
  have v39 : IVec S1x1 1 := cmpf .olt y v38
  have v40 : IVec S1x1 1 := andi v37 v39
  v40

/-- Two to integer exponents. -/
def pow2 (z : IVec S1x1 32) : FVec Ideal S1x1 .f32 :=
  have v89 : IVec S1x1 32 := broadcast S1x1 1#32
  have v90 : IVec S1x1 32 := shrsi z v89
  have v91 : IVec S1x1 32 := broadcast S1x1 127#32
  have v92 : IVec S1x1 32 := addi v90 v91
  have v93 : IVec S1x1 32 := broadcast S1x1 23#32
  have v94 : IVec S1x1 32 := shli v92 v93
  have v95 : FVec Ideal S1x1 .f32 := bitcastToFloat .f32 v94
  have v96 : IVec S1x1 32 := subi z v90
  have v97 : IVec S1x1 32 := broadcast S1x1 127#32
  have v98 : IVec S1x1 32 := addi v96 v97
  have v99 : IVec S1x1 32 := broadcast S1x1 23#32
  have v100 : IVec S1x1 32 := shli v98 v99
  have v101 : FVec Ideal S1x1 .f32 := bitcastToFloat .f32 v100
  have v102 : FVec Ideal S1x1 .f32 := mulf v95 v101
  v102

theorem pow2_apply (z : IVec S1x1 32) (i : S1x1.Idx) : (pow2 z i : EReal) = powWord (z i) := rfl

theorem iota_lane (i : S1x384.Idx) : iota .tc S1x384 32 [1] iota_S1x384_d1_w32 i = BitVec.ofNat 32 (i 1).val := by
  unfold iota
  simp only [List.foldl_cons, List.foldl_nil, Nat.zero_mul, Nat.zero_add]

theorem lanes_apply (y : FVec Ideal S1x1 .f32) (i : S1x1.Idx) (hy : 0 < (y o11 : EReal) ∧ (y o11 : EReal) < ⊤) :
    lanes y i = BitVec.ofInt 32 (qexp (y o11)) := by
  unfold lanes
  dsimp only
  rw [shapeCast_apply _ _ i o1 (by rw [idx11 i]; decide)]
  refine (multiReductionI_eq_fold .maxsi _ _ reduces_S1x384_S1 rfl o1).trans ?_
  refine Eq.trans ?_ (fold_lane (Finset.univ.filter fun i => reduces_S1x384_S1.drop i = o1) (fun k : S1x384.Idx => (k 1 : Fin 384)) (fun k => ⟨ix2 0 k, Finset.mem_filter.mpr ⟨Finset.mem_univ _, idx1 _ _⟩, rfl⟩) (y o11) hy)
  refine congrArg (fun f => Finset.fold _ _ f _) (funext fun k => ?_)
  unfold lane
  rw [← iota_lane k]
  have e : broadcastTo S1x384 y broadcasts_S1x1_S1x384 k = y o11 := congrArg y (idx11 _)
  rw [← e]
  rfl

theorem live_apply (y : FVec Ideal S1x1 .f32) (i : S1x1.Idx) :
    live y i = 1 ↔ 0 < (y i : EReal) ∧ (y i : EReal) < ⊤ := by
  have e : live y i = IntOp.andi (Ideal.cmp .ogt (y i) (word 0#32)) (Ideal.cmp .olt (y i) (word 0x7F800000#32)) := rfl
  rw [e, word_zero, word_top]
  unfold Ideal.cmp
  by_cases h1 : (0 : EReal) < y i <;> by_cases h2 : (y i : EReal) < ⊤ <;> simp [h1, h2, IntOp.andi]

/-- The exponent the kernel uses: none for an all-zero history or a bound that is not a positive real number. -/
theorem pay8_apply (k : BitVec 32) (h : FVec Ideal S1x16 .f32) (y : FVec Ideal S1x1 .f32) (hy : ∀ i, (y i : EReal) = bound k (top h)) (i : S1x1.Idx) :
    k0_pay8 (F := Ideal) (k0_pay4 h) (lanes y) (live y) 0#32 i = BitVec.ofInt 32 (expo k (top h)) := by
  have e : k0_pay8 (F := Ideal) (k0_pay4 h) (lanes y) (live y) 0#32 i
      = Scalar.select (Ideal.cmp .oeq (k0_pay4 (F := Ideal) h i) (word 0#32)) 0#32 (Scalar.select (live y i) (lanes y i) 0#32) := rfl
  rw [e, pay4_apply, word_zero]
  have q0 : ∀ z : EReal, ¬ (0 < z ∧ z < ⊤) → qexp z = 0 := fun z hz => by unfold qexp; rw [if_neg hz]
  unfold Scalar.select
  by_cases h0 : top h = 0
  · have : bound k (top h) = 0 := by rw [h0]; simp [bound, absE]
    rw [if_pos (by simp [Ideal.cmp, h0]), expo, q0 _ (by rw [this]; simp)]; rfl
  · rw [if_neg (by simp [Ideal.cmp, h0])]
    by_cases hl : 0 < bound k (top h) ∧ bound k (top h) < ⊤
    · rw [if_pos ((live_apply y i).mpr (by rw [hy]; exact hl)), lanes_apply y i (by rw [hy]; exact hl), hy, expo]
    · rw [if_neg (fun h1 => hl (by rw [← hy i]; exact (live_apply y i).mp h1)), expo, q0 _ hl]; rfl

theorem expo_mem (k : BitVec 32) (a : EReal) : -148 ≤ expo k a ∧ expo k a ≤ 128 := qexp_mem _

/-- Two to the exponent, -/
theorem pow2_pos (k : BitVec 32) (a : EReal) (z : IVec S1x1 32) (hz : ∀ i, z i = BitVec.ofInt 32 (expo k a)) (i : S1x1.Idx) :
    (pow2 z i : EReal) = two (expo k a) := by
  have := expo_mem k a
  rw [pow2_apply, hz, powWord_ofInt _ (by omega) (by omega)]; rfl

/-- and two to its negative. -/
theorem pow2_neg (k : BitVec 32) (a : EReal) (z : IVec S1x1 32) (hz : ∀ i, z i = BitVec.ofInt 32 (expo k a)) (i : S1x1.Idx) :
    (pow2 (subi (broadcast S1x1 0#32) z) i : EReal) = two (-expo k a) := by
  have := expo_mem k a
  have e : subi (broadcast S1x1 0#32) z i = BitVec.ofInt 32 (-expo k a) := by
    show 0#32 - z i = _
    rw [hz, BitVec.ofInt_neg]; simp
  rw [pow2_apply, e, powWord_ofInt _ (by omega) (by omega)]; rfl

/-! ## The maxima -/

/-- A block's absolute maximum over row groups is at most `b` everywhere exactly when every entry's absolute value is. -/
theorem tile_le {s u v : Shape} {axes : List (Fin u.rank)} (x : FVec Ideal s .f32) (hc : s.ShapeCasts u) (hr : u.Reduces axes v)
    (hf : FKind.Formats .f32) (ha : 0xFF800000#32 = FKind.maximumf.neutral .f32 hf) (b : EReal) :
    (∀ q, (multiReduction .maximumf axes v (shapeCast u (absf x) hc) 0xFF800000#32 hr hf ha q : EReal) ≤ b) ↔ ∀ p, absE (x p) ≤ b := by
  constructor
  · intro h p
    have := (multiReduction_le_iff _ _ _ _ _ _ _ word_bot).mp (h (hr.drop ((Shape.reshapeEquiv hc).symm p))) _ rfl
    have e : (shapeCast u (absf x) hc ((Shape.reshapeEquiv hc).symm p) : EReal) = absE (x p) := by
      show absE (x (Shape.reshapeEquiv hc ((Shape.reshapeEquiv hc).symm p))) = _
      rw [Equiv.apply_symm_apply]
    rwa [e] at this
  · intro h q
    exact (multiReduction_le_iff _ _ _ _ _ _ _ word_bot).mpr fun i _ => h _

/-- The maximum over a whole block is at most `b` exactly when every entry is. -/
theorem total_le {s u : Shape} {axes : List (Fin u.rank)} (x : FVec Ideal s .f32) (hc : s.ShapeCasts u) (hr : u.Reduces axes S1)
    (hf : FKind.Formats .f32) (ha : 0xFF800000#32 = FKind.maximumf.neutral .f32 hf) (j : S1.Idx) (b : EReal) :
    (multiReduction .maximumf axes S1 (shapeCast u x hc) 0xFF800000#32 hr hf ha j : EReal) ≤ b ↔ ∀ p, (x p : EReal) ≤ b := by
  rw [multiReduction_le_iff _ _ _ _ _ _ _ word_bot]
  constructor
  · intro h p
    have := h ((Shape.reshapeEquiv hc).symm p) (idx1 _ _)
    have e : (shapeCast u x hc ((Shape.reshapeEquiv hc).symm p) : EReal) = x p := by
      show (x (Shape.reshapeEquiv hc ((Shape.reshapeEquiv hc).symm p)) : EReal) = _
      rw [Equiv.apply_symm_apply]
    rwa [e] at this
  · intro h i _
    exact h _

/-- The one entry, taken out. -/
theorem only {α : Type} (r : S1.Idx → α) (h : S1.ShapeCasts S1x1x1) (h' : ∀ a, ![0, 0, 0] a < S1x1x1.size a) :
    extractAt ![0, 0, 0] (shapeCast S1x1x1 r h) h' = r o1 := congrArg r (idx1 _ _)

/-! ## The history -/

/-- The history with `a` put behind its last fifteen entries. -/
def next (h : Fin 16 → EReal) (a : EReal) (j : Fin 16) : EReal := if hj : j.val = 15 then a else h ⟨j.val + 1, by omega⟩

/-- The text of the last point's history, from the total maximum `t`. -/
def shifted (h : FVec Ideal S1x16 .f32) (t : Ideal .f32) : FVec Ideal S1x16 .f32 :=
  select (cmpi .eq (iota .tc S1x16 32 [1] iota_S1x16_d1_w32) (broadcast S1x16 15#32))
    (broadcastTo S1x16 (shapeCast S1x1 (broadcast S1x1 t) shapeCasts_S1x1_S1x1) broadcasts_S1x1_S1x16)
    (dynamicRotate 1 15#32 none h rotates_S1x16_d1)

theorem iota_hist (i : S1x16.Idx) : iota .tc S1x16 32 [1] iota_S1x16_d1_w32 i = BitVec.ofNat 32 (i 1).val := by
  unfold iota
  simp only [List.foldl_cons, List.foldl_nil, Nat.zero_mul, Nat.zero_add]

theorem lane15 : ∀ j : Fin 16, Scalar.cmpi .eq (BitVec.ofNat 32 j.val) 15#32 = 1 ↔ j.val = 15 := by decide

theorem shifted_apply (h : FVec Ideal S1x16 .f32) (t : Ideal .f32) (j : Fin 16) :
    (shifted h t (ix2 0 j) : EReal) = next (fun k => h (ix2 0 k)) t j := by
  have e : shifted h t (ix2 0 j) = Scalar.select (Scalar.cmpi .eq (iota .tc S1x16 32 [1] iota_S1x16_d1_w32 (ix2 0 j)) 15#32) t
      (dynamicRotate 1 15#32 none h rotates_S1x16_d1 (ix2 0 j)) := rfl
  rw [e, iota_hist, show ix2 (0 : Fin 1) j 1 = j from rfl]
  unfold Scalar.select next
  by_cases hj : j.val = 15
  · rw [if_pos ((lane15 j).mpr hj), dif_pos hj]
  · rw [if_neg (fun h1 => hj ((lane15 j).mp h1)), dif_neg hj]
    refine dynamicRotate_apply 1 _ h _ _ (ix2 0 ⟨j.val + 1, by omega⟩) fun b => ?_
    have := j.isLt
    match b with
    | ⟨0, _⟩ => rfl
    | ⟨1, _⟩ =>
      show j.val + 1 = (j.val + 16 - 15) % 16
      omega

end Cert.KernelIdeal
end
-- ==== Proof.QxValue.lean ====
/-
  What the quantise call of the activations leaves: the codes, the scale and the history, entry by entry.
-/
module

public import proofs.«01_k».proof.Proof.Quant
public import proofs.«01_k».proof.Proof.QxRegion
public import Idealize.ShloMosaic.Lib.Pipeline.ValueKit.Geometry

@[expose] public section

noncomputable section

namespace Cert.KernelIdeal.Qx

open Idealize.ShloMosaic Cert.Scale Idealize.ShloMosaic.ValueIdx Idealize.ShloMosaic.TcCoe
open Cert.KernelIdeal.Gen
open Idealize.ShloMosaic.Pipeline (Dat)

/-- The exponent from a history. -/
def ex (h : FVec Ideal S1x16 .f32) : ℤ := expo 0x3B124925#32 (top h)

/-- The bound as the kernel computes it. -/
def y (h : FVec Ideal S1x16 .f32) : FVec Ideal S1x1 .f32 := k0_pay5 (F := Ideal) h

theorem y_apply (h : FVec Ideal S1x16 .f32) (i : S1x1.Idx) : (y h i : EReal) = bound 0x3B124925#32 (top h) := by
  have e : (y h i : EReal) = absE ((k0_pay4 (F := Ideal) h i : EReal) * word 0x3B124925#32) := rfl
  rw [e, pay4_apply]; rfl

theorem codes_apply (h : FVec Ideal S1x16 .f32) (x : FVec Ideal S512x4096 .bf16) (i : S512x4096.Idx) :
    (codes (F := Ideal) h x i : EReal) = code 0xC3E00000#32 0x43E00000#32 (ex h) (x i) := by
  have e : (codes (F := Ideal) h x i : EReal) = min (word 0x43E00000#32) (max (word 0xC3E00000#32)
      ((shapeCast S512x4096 x shapeCasts_S512x4096_S512x4096 i : EReal)
        * (broadcastTo S512x4096 (pow2 (subi (broadcast S1x1 0#32) (k0_pay8 (F := Ideal) (k0_pay4 h) (lanes (y h)) (live (y h)) 0#32)))
            broadcasts_S1x1_S512x4096 i : EReal))) := rfl
  have e2 : (broadcastTo S512x4096 (pow2 (subi (broadcast S1x1 0#32) (k0_pay8 (F := Ideal) (k0_pay4 h) (lanes (y h)) (live (y h)) 0#32)))
            broadcasts_S1x1_S512x4096 i : EReal) = two (-ex h) :=
    pow2_neg _ _ _ (pay8_apply _ h (y h) (y_apply h)) _
  rw [e, e2, shapeCast_self]; rfl

theorem scale_apply (h : FVec Ideal S1x16 .f32) (i : S1x1.Idx) : (scale (F := Ideal) h i : EReal) = two (ex h) :=
  pow2_pos _ _ _ (pay8_apply _ h (y h) (y_apply h)) i

theorem hist_apply (h : FVec Ideal S1x16 .f32) (m : FVec Ideal S8x4096 .f32) (j : Fin 16) :
    (hist (F := Ideal) h m (ix2 0 j) : EReal) = next (fun k => h (ix2 0 k)) (⨆ q, (m q : EReal)) j := by
  let t : Ideal .f32 := extractAt ![0, 0, 0] (shapeCast S1x1x1 (multiReduction (F := Ideal) .maximumf [1, 2] S1 (shapeCast S1x8x4096 m shapeCasts_S8x4096_S1x8x4096)
    0xFF800000#32 reduces_S1x8x4096_S1 (.inl rfl) rfl) shapeCasts_S1_S1x1x1) inpos_S1x1x1_p0_0_0
  have e : hist (F := Ideal) h m (ix2 0 j) = shifted (shapeCast S1x16 h shapeCasts_S1x16_S1x16) t (ix2 0 j) := rfl
  have et : (t : EReal) = ⨆ q, (m q : EReal) := by
    refine eq_of_forall_ge_iff fun b => ?_
    rw [iSup_le_iff, show t = _ from only _ _ _]
    exact total_le m shapeCasts_S8x4096_S1x8x4096 reduces_S1x8x4096_S1 (.inl rfl) rfl _ b
  rw [e, shapeCast_self, shifted_apply, et]

theorem amax_first (x : FVec Ideal S512x4096 .bf16) (b : EReal) :
    (∀ q, (k0_pay12 (F := Ideal) x q : EReal) ≤ b) ↔ ∀ p, absE (x p) ≤ b := by
  have e : k0_pay12 (F := Ideal) x = multiReduction .maximumf [0] S8x4096 (shapeCast S64x8x4096 (absf (F := Ideal) (φ := .f32) x) shapeCasts_S512x4096_S64x8x4096)
      0xFF800000#32 reduces_S64x8x4096_S8x4096 (.inl rfl) rfl := by
    unfold k0_pay12 k0_pay11 k0_pay9
    dsimp only
    rw [shapeCast_self, shapeCast_self]; rfl
  rw [e]
  exact tile_le (s := S512x4096) x shapeCasts_S512x4096_S64x8x4096 reduces_S64x8x4096_S8x4096 (.inl rfl) rfl b

theorem amax_later (x : FVec Ideal S512x4096 .bf16) (m : FVec Ideal S8x4096 .f32) (b : EReal) :
    (∀ q, (amax (F := Ideal) False x m q : EReal) ≤ b) ↔ (∀ q, (m q : EReal) ≤ b) ∧ ∀ p, absE (x p) ≤ b := by
  rw [← amax_first]
  have e : amax (F := Ideal) False x m = shapeCast S8x4096 (maximumf m (k0_pay12 (F := Ideal) x)) shapeCasts_S8x4096_S8x4096 := by
    unfold amax k0_pay12 k0_pay1
    rw [if_neg not_false]
    dsimp only
    rw [shapeCast_self, shapeCast_self, shapeCast_self]
  rw [e, shapeCast_self]
  exact ⟨fun h => ⟨fun q => le_trans (le_max_left _ _) (h q), fun q => le_trans (le_max_right _ _) (h q)⟩, fun h q => max_le (h.1 q) (h.2 q)⟩

variable (V : Dev nD → Valuation τ sig (Elt Ideal)) (c : Dev nD)

/-- The running maximum after `n` points is at most `b` exactly when every entry of their blocks is. -/
theorem acc_le (b : EReal) : ∀ n, n < cfg0.N → ((∀ q, (acc V c n q : EReal) ≤ b) ↔ ∀ t : Fin cfg0.N, t.val ≤ n → ∀ p, absE (iblk V c 1 t p) ≤ b)
  | 0, _ => by
    rw [acc]
    refine (amax_first _ b).trans ⟨fun h t ht => ?_, fun h => h t0 (le_refl _)⟩
    rw [show t = t0 from Fin.ext (Nat.le_zero.mp ht)]; exact h
  | n + 1, hn => by
    rw [acc, dif_pos hn]
    refine (amax_later _ _ b).trans ?_
    rw [acc_le b n (Nat.lt_of_succ_lt hn)]
    constructor
    · intro h t ht
      rcases Nat.lt_or_ge n t.val with h1 | h1
      · rw [show t = ⟨n + 1, hn⟩ from Fin.ext (by show t.val = n + 1; omega)]; exact h.2
      · exact h.1 t h1
    · exact fun h => ⟨fun t ht => h t (by omega), h ⟨n + 1, hn⟩ (le_refl _)⟩

end Cert.KernelIdeal.Qx
end
-- ==== Proof.QxArrays.lean ====
/-
  The arrays the quantise call of the activations leaves, from the arrays it is entered with.
-/
module

public import proofs.«01_k».proof.Proof.QxValue

@[expose] public section

noncomputable section

namespace Cert.KernelIdeal.Qx

open Idealize.ShloMosaic Cert.Scale Idealize.ShloMosaic.ValueIdx Idealize.ShloMosaic.TcCoe
open Cert.KernelIdeal.Gen
open Idealize.ShloMosaic.Pipeline (Dat)

variable (V : Dev nD → Valuation τ sig (Elt Ideal)) (c : Dev nD)

/-- The history the call is entered with, -/
def H : FVec Ideal S1x16 .f32 := V c (Proc.devRef .tc main_v1)
/-- and the tensor. -/
def X : FVec Ideal S12288x4096 .bf16 := V c (Proc.devRef .tc main_v0)

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)

/-- Every point reads the whole history. -/
theorem iblk_0 (t : Fin cfg0.N) : iblk V c 0 t = H V c := by
  funext y
  unfold H
  blk_ext [iblk, index_0]

/-- The codes. -/
theorem arr_2 : (dat V c).arrAt 2 cfg0.N = fun i => code 0xC3E00000#32 0x43E00000#32 (ex (H V c)) (X V c i) := by
  refine (dat V c).arrAt_eq_of_covers 2 _ (by decide +kernel) fun t hf y => ?_
  blk_simp
  rw [after_2]
  refine (codes_apply _ _ y).trans ?_
  rw [iblk_0]
  refine congrArg (code 0xC3E00000#32 0x43E00000#32 (ex (H V c))) ?_
  unfold X
  blk_ext [iblk, index_1, index_2]

/-- The scale. -/
theorem arr_3 : (dat V c).arrAt 3 cfg0.N = fun _ => two (ex (H V c)) := by
  refine (dat V c).arrAt_eq_of_covers 3 _ (by decide +kernel) fun t hf y => ?_
  blk_simp
  rw [after_3]
  refine (scale_apply _ y).trans ?_
  rw [iblk_0]

/-- The absolute maximum over the tensor, gathered over the points. -/
theorem total : (⨆ q, (acc V c 23 q : EReal)) = ⨆ i, absE (X V c i) := by
  have hN : cfg0.N = 24 := N_0
  refine eq_of_forall_ge_iff fun b => ?_
  rw [iSup_le_iff, iSup_le_iff]
  refine (acc_le V c b 23 (by omega)).trans ⟨fun h i => ?_, fun h t _ p => ?_⟩
  · have h0 : (i 0).val < 12288 := (i 0).isLt
    have := h ⟨(i 0).val / 512, by omega⟩ (by show (i 0).val / 512 ≤ 23; omega) (ix2 (n0 := 512) (n1 := 4096) ⟨(i 0).val % 512, by omega⟩ (i 1))
    refine le_of_eq_of_le (congrArg absE ?_) this
    unfold X
    blk_ext [iblk, index_1]
  · refine le_of_eq_of_le (congrArg absE ?_) (h (((cfg0.win 1).blk t).view.emb p))
    unfold X
    blk_simp [iblk]

/-- The history: the largest absolute value behind the last fifteen. -/
theorem arr_4 : (dat V c).arrAt 4 cfg0.N = fun i => next (fun k => H V c (ix2 0 k)) (⨆ i, absE (X V c i)) (i 1) := by
  refine (dat V c).arrAt_eq_of_covers 4 _ (by decide +kernel) fun t hf y => ?_
  have ht : t.val = 23 := by
    have h1 := (flush0_4 t).mp hf
    have h2 : t.val < 24 := lt_of_lt_of_eq t.isLt N_0
    omega
  blk_simp
  rw [after_4, iblk_0, ht]
  have hy : y = ix2 (n0 := 1) (n1 := 16) 0 (y 1) := by
    funext a
    match a with
    | ⟨0, _⟩ => exact Fin.ext (by have h : (y 0).val < 1 := (y 0).isLt; show (y 0).val = 0; omega)
    | ⟨1, _⟩ => rfl
  rw [hy]
  refine (hist_apply _ _ _).trans ?_
  rw [total]
  refine congrArg (next _ _) (Fin.ext ?_)
  blk_simp [index_4]
  rfl

end Cert.KernelIdeal.Qx
end
-- ==== Proof.QwValue.lean ====
/-
  What the quantise call of the weights leaves: the codes, the scale and the history, entry by entry.
-/
module

public import proofs.«01_k».proof.Proof.Quant
public import proofs.«01_k».proof.Proof.QwRegion
public import Idealize.ShloMosaic.Lib.Pipeline.ValueKit.Geometry

@[expose] public section

noncomputable section

namespace Cert.KernelIdeal.Qw

open Idealize.ShloMosaic Cert.Scale Idealize.ShloMosaic.ValueIdx Idealize.ShloMosaic.TcCoe
open Cert.KernelIdeal.Gen
open Idealize.ShloMosaic.Pipeline (Dat)

/-- The exponent from a history. -/
def ex (h : FVec Ideal S1x16 .f32) : ℤ := expo 0x3B124925#32 (top h)

/-- The bound as the kernel computes it. -/
def y (h : FVec Ideal S1x16 .f32) : FVec Ideal S1x1 .f32 := k1_pay5 (F := Ideal) h

theorem y_apply (h : FVec Ideal S1x16 .f32) (i : S1x1.Idx) : (y h i : EReal) = bound 0x3B124925#32 (top h) := by
  have e : (y h i : EReal) = absE ((k0_pay4 (F := Ideal) h i : EReal) * word 0x3B124925#32) := rfl
  rw [e, pay4_apply]; rfl

theorem codes_apply (h : FVec Ideal S1x16 .f32) (x : FVec Ideal S256x8192 .f32) (i : S256x8192.Idx) :
    (codes (F := Ideal) h x i : EReal) = code 0xC3E00000#32 0x43E00000#32 (ex h) (x i) := by
  have e : (codes (F := Ideal) h x i : EReal) = min (word 0x43E00000#32) (max (word 0xC3E00000#32)
      ((x i : EReal)
        * (broadcastTo S256x8192 (pow2 (subi (broadcast S1x1 0#32) (k0_pay8 (F := Ideal) (k0_pay4 h) (lanes (y h)) (live (y h)) 0#32)))
            broadcasts_S1x1_S256x8192 i : EReal))) := rfl
  have e2 : (broadcastTo S256x8192 (pow2 (subi (broadcast S1x1 0#32) (k0_pay8 (F := Ideal) (k0_pay4 h) (lanes (y h)) (live (y h)) 0#32)))
            broadcasts_S1x1_S256x8192 i : EReal) = two (-ex h) :=
    pow2_neg _ _ _ (pay8_apply _ h (y h) (y_apply h)) _
  rw [e, e2]; rfl

theorem scale_apply (h : FVec Ideal S1x16 .f32) (i : S1x1.Idx) : (scale (F := Ideal) h i : EReal) = two (ex h) :=
  pow2_pos _ _ _ (pay8_apply _ h (y h) (y_apply h)) i

theorem hist_apply (h : FVec Ideal S1x16 .f32) (m : FVec Ideal S8x8192 .f32) (j : Fin 16) :
    (hist (F := Ideal) h m (ix2 0 j) : EReal) = next (fun k => h (ix2 0 k)) (⨆ q, (m q : EReal)) j := by
  let t : Ideal .f32 := extractAt ![0, 0, 0] (shapeCast S1x1x1 (multiReduction (F := Ideal) .maximumf [1, 2] S1 (shapeCast S1x8x8192 m shapeCasts_S8x8192_S1x8x8192)
    0xFF800000#32 reduces_S1x8x8192_S1 (.inl rfl) rfl) shapeCasts_S1_S1x1x1) inpos_S1x1x1_p0_0_0
  have e : hist (F := Ideal) h m (ix2 0 j) = shifted (shapeCast S1x16 h shapeCasts_S1x16_S1x16) t (ix2 0 j) := rfl
  have et : (t : EReal) = ⨆ q, (m q : EReal) := by
    refine eq_of_forall_ge_iff fun b => ?_
    rw [iSup_le_iff, show t = _ from only _ _ _]
    exact total_le m shapeCasts_S8x8192_S1x8x8192 reduces_S1x8x8192_S1 (.inl rfl) rfl _ b
  rw [e, shapeCast_self, shifted_apply, et]

theorem amax_first (x : FVec Ideal S256x8192 .f32) (b : EReal) :
    (∀ q, (k1_pay11 (F := Ideal) x q : EReal) ≤ b) ↔ ∀ p, absE (x p) ≤ b := by
  have e : k1_pay11 (F := Ideal) x = multiReduction .maximumf [0] S8x8192 (shapeCast S32x8x8192 (absf (F := Ideal) (φ := .f32) x) shapeCasts_S256x8192_S32x8x8192)
      0xFF800000#32 reduces_S32x8x8192_S8x8192 (.inl rfl) rfl := by
    unfold k1_pay11 k1_pay10
    dsimp only
    rw [shapeCast_self]
  rw [e]
  exact tile_le (s := S256x8192) x shapeCasts_S256x8192_S32x8x8192 reduces_S32x8x8192_S8x8192 (.inl rfl) rfl b

theorem amax_later (x : FVec Ideal S256x8192 .f32) (m : FVec Ideal S8x8192 .f32) (b : EReal) :
    (∀ q, (amax (F := Ideal) False x m q : EReal) ≤ b) ↔ (∀ q, (m q : EReal) ≤ b) ∧ ∀ p, absE (x p) ≤ b := by
  rw [← amax_first]
  have e : amax (F := Ideal) False x m = shapeCast S8x8192 (maximumf m (k1_pay11 (F := Ideal) x)) shapeCasts_S8x8192_S8x8192 := by
    unfold amax k1_pay11 k1_pay1
    rw [if_neg not_false]
    dsimp only
    rw [shapeCast_self, shapeCast_self, shapeCast_self]
  rw [e, shapeCast_self]
  exact ⟨fun h => ⟨fun q => le_trans (le_max_left _ _) (h q), fun q => le_trans (le_max_right _ _) (h q)⟩, fun h q => max_le (h.1 q) (h.2 q)⟩

variable (V : Dev nD → Valuation τ sig (Elt Ideal)) (c : Dev nD)

/-- The running maximum after `n` points is at most `b` exactly when every entry of their blocks is. -/
theorem acc_le (b : EReal) : ∀ n, n < cfg1.N → ((∀ q, (acc V c n q : EReal) ≤ b) ↔ ∀ t : Fin cfg1.N, t.val ≤ n → ∀ p, absE (iblk V c 1 t p) ≤ b)
  | 0, _ => by
    rw [acc]
    refine (amax_first _ b).trans ⟨fun h t ht => ?_, fun h => h t0 (le_refl _)⟩
    rw [show t = t0 from Fin.ext (Nat.le_zero.mp ht)]; exact h
  | n + 1, hn => by
    rw [acc, dif_pos hn]
    refine (amax_later _ _ b).trans ?_
    rw [acc_le b n (Nat.lt_of_succ_lt hn)]
    constructor
    · intro h t ht
      rcases Nat.lt_or_ge n t.val with h1 | h1
      · rw [show t = ⟨n + 1, hn⟩ from Fin.ext (by show t.val = n + 1; omega)]; exact h.2
      · exact h.1 t h1
    · exact fun h => ⟨fun t ht => h t (by omega), h ⟨n + 1, hn⟩ (le_refl _)⟩

end Cert.KernelIdeal.Qw
end
-- ==== Proof.QwArrays.lean ====
/-
  The arrays the quantise call of the weights leaves, from the arrays it is entered with.
-/
module

public import proofs.«01_k».proof.Proof.QwValue

@[expose] public section

noncomputable section

namespace Cert.KernelIdeal.Qw

open Idealize.ShloMosaic Cert.Scale Idealize.ShloMosaic.ValueIdx Idealize.ShloMosaic.TcCoe
open Cert.KernelIdeal.Gen
open Idealize.ShloMosaic.Pipeline (Dat)

variable (V : Dev nD → Valuation τ sig (Elt Ideal)) (c : Dev nD)

/-- The history the call is entered with, -/
def H : FVec Ideal S1x16 .f32 := V c (Proc.devRef .tc main_v4)
/-- and the tensor. -/
def X : FVec Ideal S4096x8192 .f32 := V c (Proc.devRef .tc main_arg1)

theorem index_0 : ∀ t : Fin cfg1.N, win1_0.index t = ![0, 0] := (by decide +kernel : ∀ t : Fin grid1.N, _)
theorem index_1 : ∀ t : Fin cfg1.N, win1_1.index t = ![t.val, 0] := (by decide +kernel : ∀ t : Fin grid1.N, _)
theorem index_2 : ∀ t : Fin cfg1.N, win1_2.index t = ![t.val, 0] := (by decide +kernel : ∀ t : Fin grid1.N, _)
theorem index_3 : ∀ t : Fin cfg1.N, win1_3.index t = ![0, 0] := (by decide +kernel : ∀ t : Fin grid1.N, _)
theorem index_4 : ∀ t : Fin cfg1.N, win1_4.index t = ![0, 0] := (by decide +kernel : ∀ t : Fin grid1.N, _)

/-- Every point reads the whole history. -/
theorem iblk_0 (t : Fin cfg1.N) : iblk V c 0 t = H V c := by
  funext y
  unfold H
  blk_ext [iblk, index_0]

/-- The codes. -/
theorem arr_2 : (dat V c).arrAt 2 cfg1.N = fun i => code 0xC3E00000#32 0x43E00000#32 (ex (H V c)) (X V c i) := by
  refine (dat V c).arrAt_eq_of_covers 2 _ (by decide +kernel) fun t hf y => ?_
  blk_simp
  rw [after_2]
  refine (codes_apply _ _ y).trans ?_
  rw [iblk_0]
  refine congrArg (code 0xC3E00000#32 0x43E00000#32 (ex (H V c))) ?_
  unfold X
  blk_ext [iblk, index_1, index_2]

/-- The scale. -/
theorem arr_3 : (dat V c).arrAt 3 cfg1.N = fun _ => two (ex (H V c)) := by
  refine (dat V c).arrAt_eq_of_covers 3 _ (by decide +kernel) fun t hf y => ?_
  blk_simp
  rw [after_3]
  refine (scale_apply _ y).trans ?_
  rw [iblk_0]

/-- The absolute maximum over the tensor, gathered over the points. -/
theorem total : (⨆ q, (acc V c 15 q : EReal)) = ⨆ i, absE (X V c i) := by
  have hN : cfg1.N = 16 := N_1
  refine eq_of_forall_ge_iff fun b => ?_
  rw [iSup_le_iff, iSup_le_iff]
  refine (acc_le V c b 15 (by omega)).trans ⟨fun h i => ?_, fun h t _ p => ?_⟩
  · have h0 : (i 0).val < 4096 := (i 0).isLt
    have := h ⟨(i 0).val / 256, by omega⟩ (by show (i 0).val / 256 ≤ 15; omega) (ix2 (n0 := 256) (n1 := 8192) ⟨(i 0).val % 256, by omega⟩ (i 1))
    refine le_of_eq_of_le (congrArg absE ?_) this
    unfold X
    blk_ext [iblk, index_1]
  · refine le_of_eq_of_le (congrArg absE ?_) (h (((cfg1.win 1).blk t).view.emb p))
    unfold X
    blk_simp [iblk]

/-- The history: the largest absolute value behind the last fifteen. -/
theorem arr_4 : (dat V c).arrAt 4 cfg1.N = fun i => next (fun k => H V c (ix2 0 k)) (⨆ i, absE (X V c i)) (i 1) := by
  refine (dat V c).arrAt_eq_of_covers 4 _ (by decide +kernel) fun t hf y => ?_
  have ht : t.val = 15 := by
    have h1 := (flush1_4 t).mp hf
    have h2 : t.val < 16 := lt_of_lt_of_eq t.isLt N_1
    omega
  blk_simp
  rw [after_4, iblk_0, ht]
  have hy : y = ix2 (n0 := 1) (n1 := 16) 0 (y 1) := by
    funext a
    match a with
    | ⟨0, _⟩ => exact Fin.ext (by have h : (y 0).val < 1 := (y 0).isLt; show (y 0).val = 0; omega)
    | ⟨1, _⟩ => rfl
  rw [hy]
  refine (hist_apply _ _ _).trans ?_
  rw [total]
  refine congrArg (next _ _) (Fin.ext ?_)
  blk_simp [index_4]
  rfl

end Cert.KernelIdeal.Qw
end
-- ==== Proof.QdyValue.lean ====
/-
  What the quantise call of the output gradients leaves: the codes, the scale and the history, entry by entry.
-/
module

public import proofs.«01_k».proof.Proof.Quant
public import proofs.«01_k».proof.Proof.QdyRegion
public import Idealize.ShloMosaic.Lib.Pipeline.ValueKit.Geometry

@[expose] public section

noncomputable section

namespace Cert.KernelIdeal.Qdy

open Idealize.ShloMosaic Cert.Scale Idealize.ShloMosaic.ValueIdx Idealize.ShloMosaic.TcCoe
open Cert.KernelIdeal.Gen
open Idealize.ShloMosaic.Pipeline (Dat)

/-- The exponent from a history. -/
def ex (h : FVec Ideal S1x16 .f32) : ℤ := expo 0x37924925#32 (top h)

/-- The bound as the kernel computes it. -/
def y (h : FVec Ideal S1x16 .f32) : FVec Ideal S1x1 .f32 := k2_pay5 (F := Ideal) h

theorem y_apply (h : FVec Ideal S1x16 .f32) (i : S1x1.Idx) : (y h i : EReal) = bound 0x37924925#32 (top h) := by
  have e : (y h i : EReal) = absE ((k0_pay4 (F := Ideal) h i : EReal) * word 0x37924925#32) := rfl
  rw [e, pay4_apply]; rfl

theorem codes_apply (h : FVec Ideal S1x16 .f32) (x : FVec Ideal S256x8192 .bf16) (i : S256x8192.Idx) :
    (codes (F := Ideal) h x i : EReal) = code 0xC7600000#32 0x47600000#32 (ex h) (x i) := by
  have e : (codes (F := Ideal) h x i : EReal) = min (word 0x47600000#32) (max (word 0xC7600000#32)
      ((shapeCast S256x8192 x shapeCasts_S256x8192_S256x8192 i : EReal)
        * (broadcastTo S256x8192 (pow2 (subi (broadcast S1x1 0#32) (k0_pay8 (F := Ideal) (k0_pay4 h) (lanes (y h)) (live (y h)) 0#32)))
            broadcasts_S1x1_S256x8192 i : EReal))) := rfl
  have e2 : (broadcastTo S256x8192 (pow2 (subi (broadcast S1x1 0#32) (k0_pay8 (F := Ideal) (k0_pay4 h) (lanes (y h)) (live (y h)) 0#32)))
            broadcasts_S1x1_S256x8192 i : EReal) = two (-ex h) :=
    pow2_neg _ _ _ (pay8_apply _ h (y h) (y_apply h)) _
  rw [e, e2, shapeCast_self]; rfl

theorem scale_apply (h : FVec Ideal S1x16 .f32) (i : S1x1.Idx) : (scale (F := Ideal) h i : EReal) = two (ex h) :=
  pow2_pos _ _ _ (pay8_apply _ h (y h) (y_apply h)) i

theorem hist_apply (h : FVec Ideal S1x16 .f32) (m : FVec Ideal S8x8192 .f32) (j : Fin 16) :
    (hist (F := Ideal) h m (ix2 0 j) : EReal) = next (fun k => h (ix2 0 k)) (⨆ q, (m q : EReal)) j := by
  let t : Ideal .f32 := extractAt ![0, 0, 0] (shapeCast S1x1x1 (multiReduction (F := Ideal) .maximumf [1, 2] S1 (shapeCast S1x8x8192 m shapeCasts_S8x8192_S1x8x8192)
    0xFF800000#32 reduces_S1x8x8192_S1 (.inl rfl) rfl) shapeCasts_S1_S1x1x1) inpos_S1x1x1_p0_0_0
  have e : hist (F := Ideal) h m (ix2 0 j) = shifted (shapeCast S1x16 h shapeCasts_S1x16_S1x16) t (ix2 0 j) := rfl
  have et : (t : EReal) = ⨆ q, (m q : EReal) := by
    refine eq_of_forall_ge_iff fun b => ?_
    rw [iSup_le_iff, show t = _ from only _ _ _]
    exact total_le m shapeCasts_S8x8192_S1x8x8192 reduces_S1x8x8192_S1 (.inl rfl) rfl _ b
  rw [e, shapeCast_self, shifted_apply, et]

theorem amax_first (x : FVec Ideal S256x8192 .bf16) (b : EReal) :
    (∀ q, (k2_pay12 (F := Ideal) x q : EReal) ≤ b) ↔ ∀ p, absE (x p) ≤ b := by
  have e : k2_pay12 (F := Ideal) x = multiReduction .maximumf [0] S8x8192 (shapeCast S32x8x8192 (absf (F := Ideal) (φ := .f32) x) shapeCasts_S256x8192_S32x8x8192)
      0xFF800000#32 reduces_S32x8x8192_S8x8192 (.inl rfl) rfl := by
    unfold k2_pay12 k2_pay11 k2_pay9
    dsimp only
    rw [shapeCast_self, shapeCast_self]; rfl
  rw [e]
  exact tile_le (s := S256x8192) x shapeCasts_S256x8192_S32x8x8192 reduces_S32x8x8192_S8x8192 (.inl rfl) rfl b

theorem amax_later (x : FVec Ideal S256x8192 .bf16) (m : FVec Ideal S8x8192 .f32) (b : EReal) :
    (∀ q, (amax (F := Ideal) False x m q : EReal) ≤ b) ↔ (∀ q, (m q : EReal) ≤ b) ∧ ∀ p, absE (x p) ≤ b := by
  rw [← amax_first]
  have e : amax (F := Ideal) False x m = shapeCast S8x8192 (maximumf m (k2_pay12 (F := Ideal) x)) shapeCasts_S8x8192_S8x8192 := by
    unfold amax k2_pay12 k2_pay1
    rw [if_neg not_false]
    dsimp only
    rw [shapeCast_self, shapeCast_self, shapeCast_self]
  rw [e, shapeCast_self]
  exact ⟨fun h => ⟨fun q => le_trans (le_max_left _ _) (h q), fun q => le_trans (le_max_right _ _) (h q)⟩, fun h q => max_le (h.1 q) (h.2 q)⟩

variable (V : Dev nD → Valuation τ sig (Elt Ideal)) (c : Dev nD)

/-- The running maximum after `n` points is at most `b` exactly when every entry of their blocks is. -/
theorem acc_le (b : EReal) : ∀ n, n < cfg2.N → ((∀ q, (acc V c n q : EReal) ≤ b) ↔ ∀ t : Fin cfg2.N, t.val ≤ n → ∀ p, absE (iblk V c 1 t p) ≤ b)
  | 0, _ => by
    rw [acc]
    refine (amax_first _ b).trans ⟨fun h t ht => ?_, fun h => h t0 (le_refl _)⟩
    rw [show t = t0 from Fin.ext (Nat.le_zero.mp ht)]; exact h
  | n + 1, hn => by
    rw [acc, dif_pos hn]
    refine (amax_later _ _ b).trans ?_
    rw [acc_le b n (Nat.lt_of_succ_lt hn)]
    constructor
    · intro h t ht
      rcases Nat.lt_or_ge n t.val with h1 | h1
      · rw [show t = ⟨n + 1, hn⟩ from Fin.ext (by show t.val = n + 1; omega)]; exact h.2
      · exact h.1 t h1
    · exact fun h => ⟨fun t ht => h t (by omega), h ⟨n + 1, hn⟩ (le_refl _)⟩

end Cert.KernelIdeal.Qdy
end
-- ==== Proof.QdyArrays.lean ====
/-
  The arrays the quantise call of the output gradients leaves, from the arrays it is entered with.
-/
module

public import proofs.«01_k».proof.Proof.QdyValue

@[expose] public section

noncomputable section

namespace Cert.KernelIdeal.Qdy

open Idealize.ShloMosaic Cert.Scale Idealize.ShloMosaic.ValueIdx Idealize.ShloMosaic.TcCoe
open Cert.KernelIdeal.Gen
open Idealize.ShloMosaic.Pipeline (Dat)

variable (V : Dev nD → Valuation τ sig (Elt Ideal)) (c : Dev nD)

/-- The history the call is entered with, -/
def H : FVec Ideal S1x16 .f32 := V c (Proc.devRef .tc main_v8)
/-- and the tensor. -/
def X : FVec Ideal S12288x8192 .bf16 := V c (Proc.devRef .tc main_v7)

theorem index_0 : ∀ t : Fin cfg2.N, win2_0.index t = ![0, 0] := (by decide +kernel : ∀ t : Fin grid2.N, _)
theorem index_1 : ∀ t : Fin cfg2.N, win2_1.index t = ![t.val, 0] := (by decide +kernel : ∀ t : Fin grid2.N, _)
theorem index_2 : ∀ t : Fin cfg2.N, win2_2.index t = ![t.val, 0] := (by decide +kernel : ∀ t : Fin grid2.N, _)
theorem index_3 : ∀ t : Fin cfg2.N, win2_3.index t = ![0, 0] := (by decide +kernel : ∀ t : Fin grid2.N, _)
theorem index_4 : ∀ t : Fin cfg2.N, win2_4.index t = ![0, 0] := (by decide +kernel : ∀ t : Fin grid2.N, _)

/-- Every point reads the whole history. -/
theorem iblk_0 (t : Fin cfg2.N) : iblk V c 0 t = H V c := by
  funext y
  unfold H
  blk_ext [iblk, index_0]

/-- The codes. -/
theorem arr_2 : (dat V c).arrAt 2 cfg2.N = fun i => code 0xC7600000#32 0x47600000#32 (ex (H V c)) (X V c i) := by
  refine (dat V c).arrAt_eq_of_covers 2 _ (by decide +kernel) fun t hf y => ?_
  blk_simp
  rw [after_2]
  refine (codes_apply _ _ y).trans ?_
  rw [iblk_0]
  refine congrArg (code 0xC7600000#32 0x47600000#32 (ex (H V c))) ?_
  unfold X
  blk_ext [iblk, index_1, index_2]

/-- The scale. -/
theorem arr_3 : (dat V c).arrAt 3 cfg2.N = fun _ => two (ex (H V c)) := by
  refine (dat V c).arrAt_eq_of_covers 3 _ (by decide +kernel) fun t hf y => ?_
  blk_simp
  rw [after_3]
  refine (scale_apply _ y).trans ?_
  rw [iblk_0]

/-- The absolute maximum over the tensor, gathered over the points. -/
theorem total : (⨆ q, (acc V c 47 q : EReal)) = ⨆ i, absE (X V c i) := by
  have hN : cfg2.N = 48 := N_2
  refine eq_of_forall_ge_iff fun b => ?_
  rw [iSup_le_iff, iSup_le_iff]
  refine (acc_le V c b 47 (by omega)).trans ⟨fun h i => ?_, fun h t _ p => ?_⟩
  · have h0 : (i 0).val < 12288 := (i 0).isLt
    have := h ⟨(i 0).val / 256, by omega⟩ (by show (i 0).val / 256 ≤ 47; omega) (ix2 (n0 := 256) (n1 := 8192) ⟨(i 0).val % 256, by omega⟩ (i 1))
    refine le_of_eq_of_le (congrArg absE ?_) this
    unfold X
    blk_ext [iblk, index_1]
  · refine le_of_eq_of_le (congrArg absE ?_) (h (((cfg2.win 1).blk t).view.emb p))
    unfold X
    blk_simp [iblk]

/-- The history: the largest absolute value behind the last fifteen. -/
theorem arr_4 : (dat V c).arrAt 4 cfg2.N = fun i => next (fun k => H V c (ix2 0 k)) (⨆ i, absE (X V c i)) (i 1) := by
  refine (dat V c).arrAt_eq_of_covers 4 _ (by decide +kernel) fun t hf y => ?_
  have ht : t.val = 47 := by
    have h1 := (flush2_4 t).mp hf
    have h2 : t.val < 48 := lt_of_lt_of_eq t.isLt N_2
    omega
  blk_simp
  rw [after_4, iblk_0, ht]
  have hy : y = ix2 (n0 := 1) (n1 := 16) 0 (y 1) := by
    funext a
    match a with
    | ⟨0, _⟩ => exact Fin.ext (by have h : (y 0).val < 1 := (y 0).isLt; show (y 0).val = 0; omega)
    | ⟨1, _⟩ => rfl
  rw [hy]
  refine (hist_apply _ _ _).trans ?_
  rw [total]
  refine congrArg (next _ _) (Fin.ext ?_)
  blk_simp [index_4]
  rfl

end Cert.KernelIdeal.Qdy
end
-- ==== Proof.FwdValue.lean ====
/-
  The array the forward product leaves, from the arrays it is entered with.
-/
module

public import proofs.«01_k».proof.Proof.Model
public import proofs.«01_k».proof.Proof.Fwd
public import Idealize.ShloMosaic.Lib.MatmulPlain
public import Idealize.ShloMosaic.Lib.Pipeline.ValueKit.Geometry

@[expose] public section

noncomputable section

namespace Cert.KernelIdeal.Fwd

open Idealize.ShloMosaic Cert.Scale Idealize.ShloMosaic.ValueIdx Idealize.ShloMosaic.TcCoe
open Cert.KernelIdeal.Gen
open Idealize.ShloMosaic.Pipeline (Dat)

variable (V : Dev nD → Valuation τ sig (Elt Ideal)) (c : Dev nD)

/-- The left codes, -/
def A : FVec Ideal S12288x4096 .fp8e4m3 := V c (Proc.devRef .tc main_v2_0)
/-- the right ones, -/
def B : FVec Ideal S4096x8192 .fp8e4m3 := V c (Proc.devRef .tc main_v5_0)
/-- the left scale -/
def sa : FVec Ideal S1x1 .f32 := V c (Proc.devRef .tc main_v2_1)
/-- and the right one. -/
def sb : FVec Ideal S1x1 .f32 := V c (Proc.devRef .tc main_v5_1)

theorem index_0 : ∀ t : Fin cfg3.N, win3_0.index t = ![0, 0] := (by decide +kernel : ∀ t : Fin grid3.N, _)
theorem index_1 : ∀ t : Fin cfg3.N, win3_1.index t = ![0, 0] := (by decide +kernel : ∀ t : Fin grid3.N, _)
theorem index_2 : ∀ t : Fin cfg3.N, win3_2.index t = ![t.val / 8, 0] := (by decide +kernel : ∀ t : Fin grid3.N, _)
theorem index_3 : ∀ t : Fin cfg3.N, win3_3.index t = ![0, t.val % 8] := (by decide +kernel : ∀ t : Fin grid3.N, _)
theorem index_4 : ∀ t : Fin cfg3.N, win3_4.index t = ![t.val / 8, t.val % 8] := (by decide +kernel : ∀ t : Fin grid3.N, _)

/-- One tile's entry: the product's, times both scales. -/
theorem tile_apply (a : FVec Ideal S1024x4096 .fp8e4m3) (b : FVec Ideal S4096x1024 .fp8e4m3) (s s' : EReal) (y : S1024x1024.Idx) :
    k3_pay1 (F := Ideal) a b s s' y = (∑ k : Fin 4096, a (ix2 (y 0) k) * b (ix2 k (y 1))) * (s * s') := by
  have e : k3_pay1 (F := Ideal) a b s s' y = FloatOps.matmul (F := Ideal) (DotDims.plain 1024 4096 1024) none
      (shapeCast S1024x4096 a shapeCasts_S1024x4096_S1024x4096) (shapeCast S4096x1024 b shapeCasts_S4096x1024_S4096x1024)
      (constant S1024x1024 .f32 0x00000000#32) y * (s * s') := rfl
  rw [e, shapeCast_self, shapeCast_self]
  refine congrArg (· * (s * s')) ?_
  conv_lhs => rw [eq_ix2 y]
  refine (Ideal.matmul_plain_apply none a b _ (y 0) (y 1)).trans ?_
  exact (congrArg (· + _) Ideal.ofBits_zero_f32).trans (zero_add _)

/-- The product of the codes, times both scales. -/
theorem arr_4 : (dat V c).arrAt 4 cfg3.N =
    fun i => (∑ k : Fin 4096, A V c (ix2 (i 0) k) * B V c (ix2 k (i 1))) * (sa V c o11 * sb V c o11) := by
  refine (dat V c).arrAt_eq_of_covers 4 _ (by decide +kernel) fun t hf y => ?_
  blk_simp
  rw [after_4]
  refine (tile_apply _ _ _ _ y).trans ?_
  refine congrArg₂ (· * ·) (Finset.sum_congr rfl fun k _ => congrArg₂ (· * ·) ?_ ?_) (congrArg₂ (· * ·) ?_ ?_)
  · unfold A
    blk_ext [iblk, index_2, index_4]
    show t.val / 8 * 1024 + (y 0).val = (((View.whole main_v11).slice (win3_4.rect t)).emb y 0).val
    blk_simp [index_4]
  · unfold B
    blk_ext [iblk, index_3, index_4]
    show t.val % 8 * 1024 + (y 1).val = (((View.whole main_v11).slice (win3_4.rect t)).emb y 1).val
    blk_simp [index_4]
  · unfold sa
    blk_ext [iblk, index_0]
  · unfold sb
    blk_ext [iblk, index_1]

end Cert.KernelIdeal.Fwd

end
-- ==== Proof.DxValue.lean ====
/-
  The array the activations' gradient leaves, from the arrays it is entered with.
-/
module

public import proofs.«01_k».proof.Proof.Model
public import proofs.«01_k».proof.Proof.Dx
public import Idealize.ShloMosaic.Lib.MatmulPlain
public import Idealize.ShloMosaic.Lib.Pipeline.ValueKit.Geometry

@[expose] public section

noncomputable section

namespace Cert.KernelIdeal.Dx

open Idealize.ShloMosaic Cert.Scale Idealize.ShloMosaic.ValueIdx Idealize.ShloMosaic.TcCoe
open Cert.KernelIdeal.Gen
open Idealize.ShloMosaic.Pipeline (Dat)

variable (V : Dev nD → Valuation τ sig (Elt Ideal)) (c : Dev nD)

/-- The left codes, -/
def A : FVec Ideal S12288x8192 .fp8e5m2 := V c (Proc.devRef .tc main_v9_0)
/-- the right ones, -/
def B : FVec Ideal S4096x8192 .fp8e4m3 := V c (Proc.devRef .tc main_v5_0)
/-- the left scale -/
def sa : FVec Ideal S1x1 .f32 := V c (Proc.devRef .tc main_v9_1)
/-- and the right one. -/
def sb : FVec Ideal S1x1 .f32 := V c (Proc.devRef .tc main_v5_1)

theorem index_0 : ∀ t : Fin cfg4.N, win4_0.index t = ![0, 0] := (by decide +kernel : ∀ t : Fin grid4.N, _)
theorem index_1 : ∀ t : Fin cfg4.N, win4_1.index t = ![0, 0] := (by decide +kernel : ∀ t : Fin grid4.N, _)
theorem index_2 : ∀ t : Fin cfg4.N, win4_2.index t = ![t.val / 4, 0] := (by decide +kernel : ∀ t : Fin grid4.N, _)
theorem index_3 : ∀ t : Fin cfg4.N, win4_3.index t = ![t.val % 4, 0] := (by decide +kernel : ∀ t : Fin grid4.N, _)
theorem index_4 : ∀ t : Fin cfg4.N, win4_4.index t = ![t.val / 4, t.val % 4] := (by decide +kernel : ∀ t : Fin grid4.N, _)

/-- One tile's entry: the product's, times both scales. -/
theorem tile_apply (a : FVec Ideal S1024x8192 .fp8e5m2) (b : FVec Ideal S1024x8192 .fp8e4m3) (s s' : EReal) (y : S1024x1024.Idx) :
    k4_pay1 (F := Ideal) a b s s' y = (∑ k : Fin 8192, a (ix2 (y 0) k) * b (ix2 (y 1) k)) * (s * s') := by
  have e : k4_pay1 (F := Ideal) a b s s' y = FloatOps.matmul (F := Ideal) (DotDims.transposedRhs 1024 8192 1024) none
      (shapeCast S1024x8192 a shapeCasts_S1024x8192_S1024x8192) (shapeCast S1024x8192 b shapeCasts_S1024x8192_S1024x8192)
      (constant S1024x1024 .f32 0x00000000#32) y * (s * s') := rfl
  rw [e, shapeCast_self, shapeCast_self]
  refine congrArg (· * (s * s')) ?_
  conv_lhs => rw [eq_ix2 y]
  refine (Ideal.matmul_transposedRhs_apply none a b _ (y 0) (y 1)).trans ?_
  exact (congrArg (· + _) Ideal.ofBits_zero_f32).trans (zero_add _)

/-- The product of the codes, times both scales. -/
theorem arr_4 : (dat V c).arrAt 4 cfg4.N =
    fun i => (∑ k : Fin 8192, A V c (ix2 (i 0) k) * B V c (ix2 (i 1) k)) * (sa V c o11 * sb V c o11) := by
  refine (dat V c).arrAt_eq_of_covers 4 _ (by decide +kernel) fun t hf y => ?_
  blk_simp
  rw [after_4]
  refine (tile_apply _ _ _ _ y).trans ?_
  refine congrArg₂ (· * ·) (Finset.sum_congr rfl fun k _ => congrArg₂ (· * ·) ?_ ?_) (congrArg₂ (· * ·) ?_ ?_)
  · unfold A
    blk_ext [iblk, index_2, index_4]
    show t.val / 4 * 1024 + (y 0).val = (((View.whole main_v12).slice (win4_4.rect t)).emb y 0).val
    blk_simp [index_4]
  · unfold B
    blk_ext [iblk, index_3, index_4]
    show t.val % 4 * 1024 + (y 1).val = (((View.whole main_v12).slice (win4_4.rect t)).emb y 1).val
    blk_simp [index_4]
  · unfold sa
    blk_ext [iblk, index_0]
  · unfold sb
    blk_ext [iblk, index_1]

end Cert.KernelIdeal.Dx

end
-- ==== Proof.DwValue.lean ====
/-
  The array the weights' gradient leaves, from the arrays it is entered with: each tile is gathered over six
  blocks of the contracted axis.
-/
module

public import proofs.«01_k».proof.Proof.Model
public import proofs.«01_k».proof.Proof.Dw
public import Idealize.ShloMosaic.Lib.Pointwise.Contract
public import Idealize.ShloMosaic.Lib.Pipeline.ValueKit.Geometry

@[expose] public section

noncomputable section

namespace Cert.KernelIdeal.Dw

open Idealize.ShloMosaic hiding ix1 ix2 ix3
open Cert.Scale Idealize.ShloMosaic.ValueIdx Idealize.ShloMosaic.TcCoe
open Cert.KernelIdeal.Gen
open Idealize.ShloMosaic.Pipeline (Dat)

variable (V : Dev nD → Valuation τ sig (Elt Ideal)) (c : Dev nD)

/-- The left codes, -/
def A : FVec Ideal S12288x4096 .fp8e4m3 := V c (Proc.devRef .tc main_v2_0)
/-- the right ones, -/
def B : FVec Ideal S12288x8192 .fp8e5m2 := V c (Proc.devRef .tc main_v9_0)
/-- the left scale -/
def sa : FVec Ideal S1x1 .f32 := V c (Proc.devRef .tc main_v2_1)
/-- and the right one. -/
def sb : FVec Ideal S1x1 .f32 := V c (Proc.devRef .tc main_v9_1)

theorem index_0 : ∀ t : Fin cfg5.N, win5_0.index t = ![0, 0] := (by decide +kernel : ∀ t : Fin grid5.N, _)
theorem index_1 : ∀ t : Fin cfg5.N, win5_1.index t = ![0, 0] := (by decide +kernel : ∀ t : Fin grid5.N, _)
theorem index_2 : ∀ t : Fin cfg5.N, win5_2.index t = ![t.val % 6, t.val / 24] := (by decide +kernel : ∀ t : Fin grid5.N, _)
theorem index_3 : ∀ t : Fin cfg5.N, win5_3.index t = ![t.val % 6, t.val / 6 % 4] := (by decide +kernel : ∀ t : Fin grid5.N, _)
theorem index_4 : ∀ t : Fin cfg5.N, win5_4.index t = ![t.val / 24, t.val / 6 % 4] := (by decide +kernel : ∀ t : Fin grid5.N, _)

/-- The product of two blocks, contracted on their rows. -/
theorem dot_apply (a : FVec Ideal S2048x1024 .fp8e4m3) (b : FVec Ideal S2048x2048 .fp8e5m2) (y : S1024x2048.Idx) :
    Ideal.matmul dot_S2048x1024_S2048x2048_S1024x2048_0_0_1_1_n_n a b (fun _ => 0) y = ∑ k : Fin 2048, (a (ix2 k (y 0)) : EReal) * b (ix2 k (y 1)) := by
  refine (Ideal.matmul_apply₁_of dot_S2048x1024_S2048x2048_S1024x2048_0_0_1_1_n_n (a := 0) rfl (K := 2048) rfl a b (fun _ => 0) y
    (fun k => ix2 k (y 0)) (fun k => ix2 k (y 1)) (fun k => ?_) (fun k => ?_)).trans (zero_add _)
  · funext q
    match q with
    | ⟨0, _⟩ => rfl
    | ⟨1, _⟩ => rfl
  · funext q
    match q with
    | ⟨0, _⟩ => rfl
    | ⟨1, _⟩ => rfl

/-- A step that does not end a tile adds the product of its blocks. -/
theorem add_apply (x : FVec Ideal S1024x2048 .f32) (a : FVec Ideal S2048x1024 .fp8e4m3) (b : FVec Ideal S2048x2048 .fp8e5m2) (y : S1024x2048.Idx) :
    k5_pay2 (F := Ideal) x a b y = x y + ∑ k : Fin 2048, (a (ix2 k (y 0)) : EReal) * b (ix2 k (y 1)) := by
  have e : k5_pay2 (F := Ideal) x a b y = shapeCast S1024x2048 x shapeCasts_S1024x2048_S1024x2048 y +
      Ideal.matmul dot_S2048x1024_S2048x2048_S1024x2048_0_0_1_1_n_n
        (shapeCast S2048x1024 a shapeCasts_S2048x1024_S2048x1024) (shapeCast S2048x2048 b shapeCasts_S2048x2048_S2048x2048)
        (fun _ => Ideal.ofBits .f32 0x00000000#32) y := rfl
  rw [e, shapeCast_self, shapeCast_self, shapeCast_self]
  refine congrArg (x y + ·) ?_
  rw [Ideal.ofBits_zero_f32]
  exact dot_apply a b y

theorem first_apply (y : S1024x2048.Idx) : (k5_pay1 (F := Ideal) y : EReal) = 0 := Ideal.ofBits_zero_f32

/-- The last step multiplies by both scales. -/
theorem last_apply (x : FVec Ideal S1024x2048 .f32) (s s' : EReal) (y : S1024x2048.Idx) : k5_pay3 (F := Ideal) x s s' y = x y * (s * s') := by
  have e : k5_pay3 (F := Ideal) x s s' y = shapeCast S1024x2048 x shapeCasts_S1024x2048_S1024x2048 y * (s * s') := rfl
  rw [e, shapeCast_self]

/-- The blocks a point multiplies, -/
abbrev left (t : Fin cfg5.N) : FVec Ideal S2048x1024 .fp8e4m3 := iblk V c 2 t
abbrev right (t : Fin cfg5.N) : FVec Ideal S2048x2048 .fp8e5m2 := iblk V c 3 t
/-- and the scales it reads. -/
abbrev s0 (t : Fin cfg5.N) : EReal := iblk V c 0 t o11
abbrev s1 (t : Fin cfg5.N) : EReal := iblk V c 1 t o11

/-- The addend of the point at position `n`. -/
def part (n : ℕ) (y : S1024x2048.Idx) : EReal :=
  if h : n < cfg5.N then ∑ k : Fin 2048, (left V c ⟨n, h⟩ (ix2 k (y 0)) : EReal) * right V c ⟨n, h⟩ (ix2 k (y 1)) else 0

/-- Before the scales, a tile holds the sum of its steps' addends. -/
theorem outs_apply (y : S1024x2048.Idx) (q : ℕ) : ∀ j : ℕ, j ≤ 4 → ∀ h : 6 * q + j < cfg5.N,
    (outs V c (6 * q + j) h y : EReal) = ∑ s ∈ Finset.range (j + 1), part V c (6 * q + s) y
  | 0, _, h => by
    have hs : ∀ xo, step V c ⟨6 * q, h⟩ xo y = part V c (6 * q) y := fun xo => by
      unfold step tile
      rw [if_neg (show ¬ (6 * q) % 6 = 5 by omega), if_pos (show (6 * q) % 6 = 0 by omega)]
      refine (add_apply _ _ _ y).trans ?_
      rw [first_apply, zero_add, part, dif_pos (show 6 * q < cfg5.N from h)]
    rw [Finset.sum_range_one]
    rcases q with _ | q
    · exact hs _
    · exact hs _
  | j + 1, hj, h => by
    rw [Finset.sum_range_succ, ← outs_apply y q j (by omega) (Nat.lt_of_succ_lt h)]
    show step V c ⟨6 * q + j + 1, h⟩ (outs V c (6 * q + j) _) y = _
    unfold step tile
    rw [if_neg (show ¬ (6 * q + j + 1) % 6 = 5 by omega), if_neg (show ¬ (6 * q + j + 1) % 6 = 0 by omega)]
    refine (add_apply _ _ _ y).trans ?_
    rw [part, dif_pos (show 6 * q + (j + 1) < cfg5.N from h)]
    rfl

/-- A finished tile: the six addends' sum, times both scales. -/
theorem outs_last (y : S1024x2048.Idx) (q : ℕ) (h : 6 * q + 5 < cfg5.N) :
    (outs V c (6 * q + 5) h y : EReal) = (∑ s ∈ Finset.range 6, part V c (6 * q + s) y) *
      (s0 V c ⟨6 * q + 5, h⟩ * s1 V c ⟨6 * q + 5, h⟩) := by
  rw [Finset.sum_range_succ, ← outs_apply V c y q 4 (by omega) (Nat.lt_of_succ_lt h)]
  show step V c ⟨6 * q + 4 + 1, h⟩ (outs V c (6 * q + 4) _) y = _
  unfold step tile
  rw [if_pos (show (6 * q + 4 + 1) % 6 = 5 by omega), if_neg (show ¬ (6 * q + 4 + 1) % 6 = 0 by omega)]
  refine (last_apply _ _ _ y).trans ?_
  refine congrArg (· * _) ((add_apply _ _ _ y).trans ?_)
  rw [part, dif_pos (show 6 * q + 5 < cfg5.N from h)]

/-- A sum over the rows is the six blocks' sums. -/
theorem sum_blocks (f : Fin 12288 → EReal) :
    ∑ n : Fin 12288, f n = ∑ s ∈ Finset.range 6, if h : s < 6 then ∑ k : Fin 2048, f ⟨s * 2048 + k.val, by omega⟩ else 0 := by
  rw [Finset.sum_range, ← Equiv.sum_comp (finProdFinEquiv (m := 6) (n := 2048)) f, Fintype.sum_prod_type]
  refine Finset.sum_congr rfl fun s _ => ?_
  rw [dif_pos s.isLt]
  exact Finset.sum_congr rfl fun k _ => congrArg f (Fin.ext (by show k.val + 2048 * s.val = s.val * 2048 + k.val; omega))

/-- The product of the codes, times both scales. -/
theorem arr_4 : (dat V c).arrAt 4 cfg5.N =
    fun i => (∑ k : Fin 12288, A V c (ix2 k (i 0)) * B V c (ix2 k (i 1))) * (sa V c o11 * sb V c o11) := by
  refine (dat V c).arrAt_eq_of_covers 4 _ (by decide +kernel) fun t hf y => ?_
  have h5 : t.val % 6 = 5 := (flush5_4 t).mp hf
  have h96 : t.val < 96 := lt_of_lt_of_eq t.isLt N_5
  blk_simp
  rw [after_4]
  obtain ⟨n, hn⟩ := t
  obtain ⟨q, rfl⟩ : ∃ q, n = 6 * q + 5 := ⟨n / 6, by dsimp only at h5; omega⟩
  dsimp only at h96
  refine (outs_last V c y q hn).trans ?_
  refine congrArg₂ (· * ·) ?_ (congrArg₂ (· * ·) ?_ ?_)
  · rw [sum_blocks]
    refine Finset.sum_congr rfl fun s hs => ?_
    have hs' : s < 6 := Finset.mem_range.mp hs
    have hN : cfg5.N = 96 := N_5
    rw [dif_pos hs', part, dif_pos (by omega)]
    refine Finset.sum_congr rfl fun k _ => congrArg₂ (· * ·) ?_ ?_
    · unfold A
      blk_ext [left, right, s0, s1, iblk, index_2, index_4]
      · show (6 * q + s) % 6 * 2048 + k.val = s * 2048 + k.val
        omega
      · show (6 * q + s) / 24 * 1024 + (y 0).val = (((View.whole main_v13).slice (win5_4.rect ⟨6 * q + 5, hn⟩)).emb y 0).val
        blk_simp [index_4]
        dsimp only
        omega
    · unfold B
      blk_ext [left, right, s0, s1, iblk, index_3, index_4]
      · show (6 * q + s) % 6 * 2048 + k.val = s * 2048 + k.val
        omega
      · show (6 * q + s) / 6 % 4 * 2048 + (y 1).val = (((View.whole main_v13).slice (win5_4.rect ⟨6 * q + 5, hn⟩)).emb y 1).val
        blk_simp [index_4]
        dsimp only
        omega
  · unfold sa
    blk_ext [left, right, s0, s1, iblk, index_0]
  · unfold sb
    blk_ext [left, right, s0, s1, iblk, index_1]

end Cert.KernelIdeal.Dw

end
-- ==== Proof.KernelValue.lean ====
/-
  The kernel's twelve results from its six arguments.
-/
module

public import proofs.«01_k».proof.Proof.Spec
public import proofs.«01_k».proof.Proof.Reads
public import proofs.«01_k».proof.Proof.QxArrays
public import proofs.«01_k».proof.Proof.QwArrays
public import proofs.«01_k».proof.Proof.QdyArrays
public import proofs.«01_k».proof.Proof.FwdValue
public import proofs.«01_k».proof.Proof.DxValue
public import proofs.«01_k».proof.Proof.DwValue

@[expose] public section

noncomputable section

namespace Cert.KernelIdeal.Chain

open Idealize.ShloMosaic hiding ix1 ix2 ix3
open Cert.Scale Idealize.ShloMosaic.ValueIdx Idealize.ShloMosaic.TcCoe
open Cert.KernelIdeal.Gen

variable (m : (ℓ : Loc nD τ sig) → Buf (Elt Ideal) ℓ) (c : Dev nD)

/-! ## The arguments -/

def x : FVec Ideal S4x3072x4096 .bf16 := m ((c.tc : Thread nD τ).loc main_arg0)
def w : FVec Ideal S4096x8192 .f32 := m ((c.tc : Thread nD τ).loc main_arg1)
def dy : FVec Ideal S4x3072x8192 .bf16 := m ((c.tc : Thread nD τ).loc main_arg2)
def hx : FVec Ideal S16 .f32 := m ((c.tc : Thread nD τ).loc main_arg3)
def hw : FVec Ideal S16 .f32 := m ((c.tc : Thread nD τ).loc main_arg4)
def hdy : FVec Ideal S16 .f32 := m ((c.tc : Thread nD τ).loc main_arg5)

/-! ## What the quantise calls are entered with -/

theorem Qx_H : Qx.H (W1 m) c = shapeCast S1x16 (hx m c) shapeCasts_S16_S1x16 := read_v1 (W0 m c)
theorem Qx_X : Qx.X (W1 m) c = shapeCast S12288x4096 (x m c) shapeCasts_S4x3072x4096_S12288x4096 := read_v0 (W0 m c)
theorem Qw_H : Qw.H (W3 m) c = shapeCast S1x16 (hw m c) shapeCasts_S16_S1x16 :=
  (read_v4 (W2 m c)).trans <| congrArg (fun v => shapeCast S1x16 v shapeCasts_S16_S1x16) <|
    (keep2 m c main_arg4 (by decide)).trans (keep1 m c main_arg4 (by decide))
theorem Qw_X : Qw.X (W3 m) c = w m c :=
  (keep3 m c main_arg1 (by decide)).trans <| (keep2 m c main_arg1 (by decide)).trans (keep1 m c main_arg1 (by decide))
theorem Qdy_H : Qdy.H (W5 m) c = shapeCast S1x16 (hdy m c) shapeCasts_S16_S1x16 :=
  (read_v8 (W4 m c)).trans <| congrArg (fun v => shapeCast S1x16 v shapeCasts_S16_S1x16) <|
    (keep4 m c main_arg5 (by decide)).trans <| (keep3 m c main_arg5 (by decide)).trans <|
    (keep2 m c main_arg5 (by decide)).trans (keep1 m c main_arg5 (by decide))
theorem Qdy_X : Qdy.X (W5 m) c = shapeCast S12288x8192 (dy m c) shapeCasts_S4x3072x8192_S12288x8192 :=
  (read_v7 (W4 m c)).trans <| congrArg (fun v => shapeCast S12288x8192 v shapeCasts_S4x3072x8192_S12288x8192) <|
    (keep4 m c main_arg2 (by decide)).trans <| (keep3 m c main_arg2 (by decide)).trans <|
    (keep2 m c main_arg2 (by decide)).trans (keep1 m c main_arg2 (by decide))

/-- A history's maximum does not depend on its shape. -/
theorem top_cast (h : FVec Ideal S16 .f32) : top (shapeCast S1x16 h shapeCasts_S16_S1x16) = ⨆ j, h j := iSup_cast h _

theorem Qx_ex : Qx.ex (Qx.H (W1 m) c) = exponent 0x3B124925#32 (hx m c) := by
  rw [Qx_H, Qx.ex, top_cast]; rfl
theorem Qw_ex : Qw.ex (Qw.H (W3 m) c) = exponent 0x3B124925#32 (hw m c) := by
  rw [Qw_H, Qw.ex, top_cast]; rfl
theorem Qdy_ex : Qdy.ex (Qdy.H (W5 m) c) = exponent 0x37924925#32 (hdy m c) := by
  rw [Qdy_H, Qdy.ex, top_cast]; rfl

/-! ## What they leave -/

theorem xcodes : W2 m c (Proc.devRef .tc main_v2_0) = shapeCast S12288x4096 (codes8 (hx m c) (x m c)) shapeCasts_S4x3072x4096_S12288x4096 := by
  refine (Pipeline.afterRegion_arr (Qx.dat (W1 m) c) (W1 m c) launch0.win.arr_inj 2).trans ((Qx.arr_2 (W1 m) c).trans ?_)
  rw [Qx_ex, Qx_X]; rfl
theorem xscale : W2 m c (Proc.devRef .tc main_v2_1) = fun _ => scale8 (hx m c) := by
  refine (Pipeline.afterRegion_arr (Qx.dat (W1 m) c) (W1 m c) launch0.win.arr_inj 3).trans ((Qx.arr_3 (W1 m) c).trans ?_)
  rw [Qx_ex]; rfl
theorem wcodes : W4 m c (Proc.devRef .tc main_v5_0) = codes8 (hw m c) (w m c) := by
  refine (Pipeline.afterRegion_arr (Qw.dat (W3 m) c) (W3 m c) launch1.win.arr_inj 2).trans ((Qw.arr_2 (W3 m) c).trans ?_)
  rw [Qw_ex, Qw_X]; rfl
theorem wscale : W4 m c (Proc.devRef .tc main_v5_1) = fun _ => scale8 (hw m c) := by
  refine (Pipeline.afterRegion_arr (Qw.dat (W3 m) c) (W3 m c) launch1.win.arr_inj 3).trans ((Qw.arr_3 (W3 m) c).trans ?_)
  rw [Qw_ex]; rfl
theorem dycodes : W6 m c (Proc.devRef .tc main_v9_0) = shapeCast S12288x8192 (codes16 (hdy m c) (dy m c)) shapeCasts_S4x3072x8192_S12288x8192 := by
  refine (Pipeline.afterRegion_arr (Qdy.dat (W5 m) c) (W5 m c) launch2.win.arr_inj 2).trans ((Qdy.arr_2 (W5 m) c).trans ?_)
  rw [Qdy_ex, Qdy_X]; rfl
theorem dyscale : W6 m c (Proc.devRef .tc main_v9_1) = fun _ => scale16 (hdy m c) := by
  refine (Pipeline.afterRegion_arr (Qdy.dat (W5 m) c) (W5 m c) launch2.win.arr_inj 3).trans ((Qdy.arr_3 (W5 m) c).trans ?_)
  rw [Qdy_ex]; rfl

/-- The new history under its one axis. -/
theorem history_cast {s : Shape} (h : FVec Ideal S16 .f32) (t : s.Idx → EReal) (a : EReal) (ha : a = ⨆ j, absE (t j)) :
    shapeCast S16 (fun i : S1x16.Idx => next (fun k => shapeCast S1x16 h shapeCasts_S16_S1x16 (ix2 0 k)) a (i 1)) shapeCasts_S1x16_S16 = history h t := by
  funext i
  have e : ∀ k : Fin 16, shapeCast S1x16 h shapeCasts_S16_S1x16 (ix2 0 k) = h (ix1 k) := fun k => by
    refine shapeCast_apply h _ _ _ ?_
    rw [Shape.rowMajor_val_two, Shape.rowMajor_val_one]
    show k.val = 0 * 16 + k.val
    omega
  refine (shapeCast_apply _ shapeCasts_S1x16_S16 i (ix2 (n0 := 1) (n1 := 16) 0 (i 0)) ?_).trans ?_
  · rw [Shape.rowMajor_val_two, Shape.rowMajor_val_one]
    show 0 * 16 + (i 0).val = (i 0).val
    omega
  · simp only [e, ha]
    rfl

theorem xhist : W11 m c (Proc.devRef .tc main_v3) = history (hx m c) (x m c) := by
  refine (keep11 m c main_v3 (by decide)).trans <| (keep8to10 m c main_v3 (by decide) (by decide) (by decide)).trans <|
    (keep7 m c main_v3 (by decide)).trans <| (keep6 m c main_v3 (by decide)).trans <| (keep5 m c main_v3 (by decide)).trans <|
    (keep4 m c main_v3 (by decide)).trans <| (read_v3 (W2 m c)).trans ?_
  refine (congrArg (fun v => shapeCast S16 v shapeCasts_S1x16_S16)
    ((Pipeline.afterRegion_arr (Qx.dat (W1 m) c) (W1 m c) launch0.win.arr_inj 4).trans (Qx.arr_4 (W1 m) c))).trans ?_
  rw [Qx_H, Qx_X]
  exact history_cast _ _ _ (iSup_cast (fun j => absE (x m c j)) _)
theorem whist : W11 m c (Proc.devRef .tc main_v6) = history (hw m c) (w m c) := by
  refine (keep11 m c main_v6 (by decide)).trans <| (keep8to10 m c main_v6 (by decide) (by decide) (by decide)).trans <|
    (keep7 m c main_v6 (by decide)).trans <| (keep6 m c main_v6 (by decide)).trans <| (read_v6 (W4 m c)).trans ?_
  refine (congrArg (fun v => shapeCast S16 v shapeCasts_S1x16_S16)
    ((Pipeline.afterRegion_arr (Qw.dat (W3 m) c) (W3 m c) launch1.win.arr_inj 4).trans (Qw.arr_4 (W3 m) c))).trans ?_
  rw [Qw_H, Qw_X]
  exact history_cast _ _ _ rfl
theorem dyhist : W11 m c (Proc.devRef .tc main_v10) = history (hdy m c) (dy m c) := by
  refine (keep11 m c main_v10 (by decide)).trans <| (keep8to10 m c main_v10 (by decide) (by decide) (by decide)).trans <|
    (read_v10 (W6 m c)).trans ?_
  refine (congrArg (fun v => shapeCast S16 v shapeCasts_S1x16_S16)
    ((Pipeline.afterRegion_arr (Qdy.dat (W5 m) c) (W5 m c) launch2.win.arr_inj 4).trans (Qdy.arr_4 (W5 m) c))).trans ?_
  rw [Qdy_H, Qdy_X]
  exact history_cast _ _ _ (iSup_cast (fun j => absE (dy m c j)) _)

/-! ## The codes and scales when the products are entered, and as results -/

theorem xcodes7 : W7 m c (Proc.devRef .tc main_v2_0) = shapeCast S12288x4096 (codes8 (hx m c) (x m c)) shapeCasts_S4x3072x4096_S12288x4096 :=
  (keep3to7 m c main_v2_0 (by decide) (by decide) (by decide) (by decide) (by decide)).trans (xcodes m c)
theorem xscale7 : W7 m c (Proc.devRef .tc main_v2_1) = fun _ => scale8 (hx m c) :=
  (keep3to7 m c main_v2_1 (by decide) (by decide) (by decide) (by decide) (by decide)).trans (xscale m c)
theorem wcodes7 : W7 m c (Proc.devRef .tc main_v5_0) = codes8 (hw m c) (w m c) :=
  (keep5to7 m c main_v5_0 (by decide) (by decide) (by decide)).trans (wcodes m c)
theorem wscale7 : W7 m c (Proc.devRef .tc main_v5_1) = fun _ => scale8 (hw m c) :=
  (keep5to7 m c main_v5_1 (by decide) (by decide) (by decide)).trans (wscale m c)
theorem dycodes7 : W7 m c (Proc.devRef .tc main_v9_0) = shapeCast S12288x8192 (codes16 (hdy m c) (dy m c)) shapeCasts_S4x3072x8192_S12288x8192 :=
  (keep7 m c main_v9_0 (by decide)).trans (dycodes m c)
theorem dyscale7 : W7 m c (Proc.devRef .tc main_v9_1) = fun _ => scale16 (hdy m c) :=
  (keep7 m c main_v9_1 (by decide)).trans (dyscale m c)

theorem end_v16 : W11 m c (Proc.devRef .tc main_v16) = codes8 (hx m c) (x m c) :=
  (read_v16 (W10 m c)).trans <| (congrArg (fun v => shapeCast S4x3072x4096 v shapeCasts_S12288x4096_S4x3072x4096)
    ((keep8to10 m c main_v2_0 (by decide) (by decide) (by decide)).trans (xcodes7 m c))).trans (shapeCast_shapeCast _ _ _)
theorem end_v17 : W11 m c (Proc.devRef .tc main_v17) = fun _ => scale8 (hx m c) :=
  (read_v17 (W10 m c)).trans <| congrArg (fun v => shapeCast S_ v shapeCasts_S1x1_S_)
    ((keep8to10 m c main_v2_1 (by decide) (by decide) (by decide)).trans (xscale7 m c))
theorem end_v5_0 : W11 m c (Proc.devRef .tc main_v5_0) = codes8 (hw m c) (w m c) :=
  (keep11 m c main_v5_0 (by decide)).trans <| (keep8to10 m c main_v5_0 (by decide) (by decide) (by decide)).trans (wcodes7 m c)
theorem end_v18 : W11 m c (Proc.devRef .tc main_v18) = fun _ => scale8 (hw m c) :=
  (read_v18 (W10 m c)).trans <| congrArg (fun v => shapeCast S_ v shapeCasts_S1x1_S_)
    ((keep8to10 m c main_v5_1 (by decide) (by decide) (by decide)).trans (wscale7 m c))
theorem end_v19 : W11 m c (Proc.devRef .tc main_v19) = codes16 (hdy m c) (dy m c) :=
  (read_v19 (W10 m c)).trans <| (congrArg (fun v => shapeCast S4x3072x8192 v shapeCasts_S12288x8192_S4x3072x8192)
    ((keep8to10 m c main_v9_0 (by decide) (by decide) (by decide)).trans (dycodes7 m c))).trans (shapeCast_shapeCast _ _ _)
theorem end_v20 : W11 m c (Proc.devRef .tc main_v20) = fun _ => scale16 (hdy m c) :=
  (read_v20 (W10 m c)).trans <| congrArg (fun v => shapeCast S_ v shapeCasts_S1x1_S_)
    ((keep8to10 m c main_v9_1 (by decide) (by decide) (by decide)).trans (dyscale7 m c))

/-! ## The products -/

theorem end_v14 : W11 m c (Proc.devRef .tc main_v14) =
    forward (codes8 (hx m c) (x m c)) (codes8 (hw m c) (w m c)) (scale8 (hx m c) * scale8 (hw m c)) := by
  refine (read_v14 (W10 m c)).trans ?_
  refine (congrArg (fun v => shapeCast S4x3072x8192 v shapeCasts_S12288x8192_S4x3072x8192)
    ((keep10 m c main_v11 (by decide)).trans <| (keep9 m c main_v11 (by decide)).trans <|
      (Pipeline.afterRegion_arr (Fwd.dat (W7 m) c) (W7 m c) launch3.win.arr_inj 4).trans (Fwd.arr_4 (W7 m) c))).trans ?_
  have eA : Fwd.A (W7 m) c = shapeCast S12288x4096 (codes8 (hx m c) (x m c)) shapeCasts_S4x3072x4096_S12288x4096 := xcodes7 m c
  have eB : Fwd.B (W7 m) c = codes8 (hw m c) (w m c) := wcodes7 m c
  have ea : Fwd.sa (W7 m) c = fun _ => scale8 (hx m c) := xscale7 m c
  have eb : Fwd.sb (W7 m) c = fun _ => scale8 (hw m c) := wscale7 m c
  rw [eA, eB, ea, eb]
  funext i
  refine (cast3 _ _ i).trans ?_
  unfold forward
  refine congrArg (· * (scale8 (hx m c) * scale8 (hw m c))) (Finset.sum_congr rfl fun k _ => ?_)
  exact congrArg (· * codes8 (hw m c) (w m c) (ix2 k (i 2))) (cast2 (codes8 (hx m c) (x m c)) _ (i 0) (i 1) k)

theorem end_v15 : W11 m c (Proc.devRef .tc main_v15) =
    gradX (codes16 (hdy m c) (dy m c)) (codes8 (hw m c) (w m c)) (scale16 (hdy m c) * scale8 (hw m c)) := by
  refine (read_v15 (W10 m c)).trans ?_
  refine (congrArg (fun v => shapeCast S4x3072x4096 v shapeCasts_S12288x4096_S4x3072x4096)
    ((keep10 m c main_v12 (by decide)).trans <|
      (Pipeline.afterRegion_arr (Dx.dat (W8 m) c) (W8 m c) launch4.win.arr_inj 4).trans (Dx.arr_4 (W8 m) c))).trans ?_
  have eA : Dx.A (W8 m) c = shapeCast S12288x8192 (codes16 (hdy m c) (dy m c)) shapeCasts_S4x3072x8192_S12288x8192 :=
    (keep8 m c main_v9_0 (by decide)).trans (dycodes7 m c)
  have eB : Dx.B (W8 m) c = codes8 (hw m c) (w m c) := (keep8 m c main_v5_0 (by decide)).trans (wcodes7 m c)
  have ea : Dx.sa (W8 m) c = fun _ => scale16 (hdy m c) := (keep8 m c main_v9_1 (by decide)).trans (dyscale7 m c)
  have eb : Dx.sb (W8 m) c = fun _ => scale8 (hw m c) := (keep8 m c main_v5_1 (by decide)).trans (wscale7 m c)
  rw [eA, eB, ea, eb]
  funext i
  refine (cast3 _ _ i).trans ?_
  unfold gradX
  refine congrArg (· * (scale16 (hdy m c) * scale8 (hw m c))) (Finset.sum_congr rfl fun k _ => ?_)
  exact congrArg (· * codes8 (hw m c) (w m c) (ix2 (i 2) k)) (cast2 (codes16 (hdy m c) (dy m c)) _ (i 0) (i 1) k)

theorem end_v13 : W11 m c (Proc.devRef .tc main_v13) =
    gradW (codes8 (hx m c) (x m c)) (codes16 (hdy m c) (dy m c)) (scale8 (hx m c) * scale16 (hdy m c)) := by
  refine (keep11 m c main_v13 (by decide)).trans <|
    (Pipeline.afterRegion_arr (Dw.dat (W9 m) c) (W9 m c) launch5.win.arr_inj 4).trans <| (Dw.arr_4 (W9 m) c).trans ?_
  have eA : Dw.A (W9 m) c = shapeCast S12288x4096 (codes8 (hx m c) (x m c)) shapeCasts_S4x3072x4096_S12288x4096 :=
    (keep9 m c main_v2_0 (by decide)).trans <| (keep8 m c main_v2_0 (by decide)).trans (xcodes7 m c)
  have eB : Dw.B (W9 m) c = shapeCast S12288x8192 (codes16 (hdy m c) (dy m c)) shapeCasts_S4x3072x8192_S12288x8192 :=
    (keep9 m c main_v9_0 (by decide)).trans <| (keep8 m c main_v9_0 (by decide)).trans (dycodes7 m c)
  have ea : Dw.sa (W9 m) c = fun _ => scale8 (hx m c) :=
    (keep9 m c main_v2_1 (by decide)).trans <| (keep8 m c main_v2_1 (by decide)).trans (xscale7 m c)
  have eb : Dw.sb (W9 m) c = fun _ => scale16 (hdy m c) :=
    (keep9 m c main_v9_1 (by decide)).trans <| (keep8 m c main_v9_1 (by decide)).trans (dyscale7 m c)
  rw [eA, eB, ea, eb]
  funext i
  unfold gradW
  refine congrArg (· * (scale8 (hx m c) * scale16 (hdy m c))) ((sum_flat _).trans ?_)
  refine Finset.sum_congr rfl fun a _ => Finset.sum_congr rfl fun r _ => ?_
  exact congrArg₂ (· * ·) (cast2 (codes8 (hx m c) (x m c)) _ a r (i 0)) (cast2 (codes16 (hdy m c) (dy m c)) _ a r (i 1))

end Cert.KernelIdeal.Chain

end
-- ==== Proof.RefReads.lean ====
/-
  What the reference's host operations leave, as terms of its arguments and, past the casts, of the arrays the
  casts leave.
-/
module

public import proofs.«01_k».proof.Proof.Gen.ReferenceIdeal.Launch
public import Idealize.ShloMosaic.Lib.StableHlo.RunRead

@[expose] public section

noncomputable section

namespace Cert.ReferenceIdeal

open Idealize.ShloMosaic Idealize.ShloMosaic.TcCoe
open Cert.ReferenceIdeal.Gen

variable {F : FTy → Type} [FloatOps F]

/-- The bound, from the history's maximum and the reciprocal of the format's largest value. -/
def boundT (k : BitVec 32) (h : FVec F S16 .f32) : FVec F S_ .f32 :=
  Host.absf (mulf (Host.reduce FloatOps.maximumf h (constant S_ .f32 0xFF800000#32) reducesTo_S16_S_d0 h_S_) (constant S_ .f32 k))

/-- The exponent of the scale. -/
def expT (y : FVec F S_ .f32) : FVec F S_ .f32 :=
  select (andi (cmpf .ogt y (constant S_ .f32 0x00000000#32)) (cmpf .olt y (constant S_ .f32 0x7F800000#32)))
    (minimumf (constant S_ .f32 0x43000000#32) (maximumf (constant S_ .f32 0xC3140000#32)
      (addf (Host.floor (Host.divf (Host.log y) (Host.log (constant S_ .f32 0x40000000#32)))) (constant S_ .f32 0x3F800000#32))))
    (constant S_ .f32 0x00000000#32)

/-- The scaled and clipped entries. -/
def codesT {s : Shape} (hb : S_.BroadcastsInDim s ![]) (lo hi : BitVec 32) (e : FVec F S_ .f32) (x : FVec F s .f32) : FVec F s .f32 :=
  minimumf (broadcastInDim s ![] hb (constant S_ .f32 hi)) (maximumf (broadcastInDim s ![] hb (constant S_ .f32 lo))
    (mulf x (broadcastInDim s ![] hb (Host.powf (constant S_ .f32 0x40000000#32) (Host.negf e)))))

/-- The scale. -/
def scaleT (e : FVec F S_ .f32) : FVec F S_ .f32 := Host.powf (constant S_ .f32 0x40000000#32) e

/-- The host operations before the casts. -/
abbrev pre : List (HloOp τ sig (Elt F)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

variable (V : Valuation τ sig (Elt F))

/-- The exponent of `x`. -/
def ex : FVec F S_ .f32 := expT (boundT 0x3B124925 (V (Proc.devRef .tc main_arg3)))
/-- The exponent of `w`. -/
def ew : FVec F S_ .f32 := expT (boundT 0x3B124925 (V (Proc.devRef .tc main_arg4)))
/-- The exponent of `dy`. -/
def edy : FVec F S_ .f32 := expT (boundT 0x37924925 (V (Proc.devRef .tc main_arg5)))

/-- `x` as binary32. -/
def xT : FVec F S4x3072x4096 .f32 := extf .f32 (V (Proc.devRef .tc main_arg0) : FVec F S4x3072x4096 .bf16)
/-- `w`. -/
def wT : FVec F S4096x8192 .f32 := V (Proc.devRef .tc main_arg1)
/-- `dy` as binary32. -/
def dyT : FVec F S4x3072x8192 .f32 := extf .f32 (V (Proc.devRef .tc main_arg2) : FVec F S4x3072x8192 .bf16)

theorem pre_v18 : StableHlo.after (pre (F := F)) V (Proc.devRef .tc main_v18)
    = codesT bcast_S_S4x3072x4096 0xC3E00000 0x43E00000 (ex V) (xT V) := by
  after_reads_simp
  rfl

theorem pre_v37 : StableHlo.after (pre (F := F)) V (Proc.devRef .tc main_v37)
    = codesT bcast_S_S4096x8192 0xC3E00000 0x43E00000 (ew V) (wT V) := by
  after_reads_simp
  rfl

theorem pre_v57 : StableHlo.after (pre (F := F)) V (Proc.devRef .tc main_v57)
    = codesT bcast_S_S4x3072x8192 0xC7600000 0x47600000 (edy V) (dyT V) := by
  after_reads_simp
  rfl

theorem pre_v19 : StableHlo.after (pre (F := F)) V (Proc.devRef .tc main_v19) = scaleT (ex V) := by
  after_reads_simp
  rfl

theorem pre_v38 : StableHlo.after (pre (F := F)) V (Proc.devRef .tc main_v38) = scaleT (ew V) := by
  after_reads_simp
  rfl

theorem pre_v58 : StableHlo.after (pre (F := F)) V (Proc.devRef .tc main_v58) = scaleT (edy V) := by
  after_reads_simp
  rfl

/-- Fifteen entries, then one. -/
def joinT (a : FVec F S15 .f32) (b : FVec F S1 .f32) : FVec F S16 .f32 :=
  concatenate S16 0 [⟨S15, a⟩, ⟨S1, b⟩] concatenates_S15_S1_S16_d0

/-- A history moved on by one, the entry `a` put last. -/
def histT (h : FVec F S16 .f32) (a : FVec F S_ .f32) : FVec F S16 .f32 :=
  joinT (extractStridedSlice S15 ![1] h slices_S16_S15_1) (broadcastInDim S1 ![] bcast_S_S1 a)

/-- The operations after the casts: the product `y`. -/
theorem post_v64 : StableHlo.after (hostOps1 (F := F)) V (Proc.devRef .tc main_v64)
    = truncf .bf16 (mulf (Host.dotGeneral dot_S4x3072x4096_S4096x8192_S4x3072x8192_2_0_01_1_n_n none
        (V (Proc.devRef .tc main_v59_3) : FVec F S4x3072x4096 .f32) (V (Proc.devRef .tc main_v59_4) : FVec F S4096x8192 .f32) : FVec F S4x3072x8192 .f32)
        (broadcastInDim S4x3072x8192 ![] bcast_S_S4x3072x8192
          (mulf (V (Proc.devRef .tc main_v19) : FVec F S_ .f32) (V (Proc.devRef .tc main_v38))))) := by
  after_reads_simp

/-- The product `dx`. -/
theorem post_v69 : StableHlo.after (hostOps1 (F := F)) V (Proc.devRef .tc main_v69)
    = truncf .bf16 (mulf (Host.dotGeneral dot_S4x3072x8192_S4096x8192_S4x3072x4096_2_1_01_0_n_n none
        (V (Proc.devRef .tc main_v59_5) : FVec F S4x3072x8192 .f32) (V (Proc.devRef .tc main_v59_4) : FVec F S4096x8192 .f32) : FVec F S4x3072x4096 .f32)
        (broadcastInDim S4x3072x4096 ![] bcast_S_S4x3072x4096
          (mulf (V (Proc.devRef .tc main_v58) : FVec F S_ .f32) (V (Proc.devRef .tc main_v38))))) := by
  after_reads_simp

/-- The product `dw`. -/
theorem post_v73 : StableHlo.after (hostOps1 (F := F)) V (Proc.devRef .tc main_v73)
    = (mulf (Host.dotGeneral dot_S4x3072x4096_S4x3072x8192_S4096x8192_01_01_2_2_n_n none
        (V (Proc.devRef .tc main_v59_3) : FVec F S4x3072x4096 .f32) (V (Proc.devRef .tc main_v59_5) : FVec F S4x3072x8192 .f32) : FVec F S4096x8192 .f32)
        (broadcastInDim S4096x8192 ![] bcast_S_S4096x8192
          (mulf (V (Proc.devRef .tc main_v19) : FVec F S_ .f32) (V (Proc.devRef .tc main_v58))))) := by
  after_reads_simp

theorem post_v79 : StableHlo.after (hostOps1 (F := F)) V (Proc.devRef .tc main_v79)
    = histT (V (Proc.devRef .tc main_arg3)) (Host.reduce FloatOps.maximumf (Host.absf (xT V)) (constant S_ .f32 0xFF800000#32) reducesTo_S4x3072x4096_S_d0_1_2 h_S_) := by
  after_reads_simp
  refine congrArg₂ joinT ?_ ?_
  · after_reads_simp
  · after_reads_simp
    rfl

theorem post_v84 : StableHlo.after (hostOps1 (F := F)) V (Proc.devRef .tc main_v84)
    = histT (V (Proc.devRef .tc main_arg4)) (Host.reduce FloatOps.maximumf (Host.absf (wT V)) (constant S_ .f32 0xFF800000#32) reducesTo_S4096x8192_S_d0_1 h_S_) := by
  after_reads_simp
  refine congrArg₂ joinT ?_ ?_
  · after_reads_simp
  · after_reads_simp
    rfl

theorem post_v90 : StableHlo.after (hostOps1 (F := F)) V (Proc.devRef .tc main_v90)
    = histT (V (Proc.devRef .tc main_arg5)) (Host.reduce FloatOps.maximumf (Host.absf (dyT V)) (constant S_ .f32 0xFF800000#32) reducesTo_S4x3072x8192_S_d0_1_2 h_S_) := by
  after_reads_simp
  refine congrArg₂ joinT ?_ ?_
  · after_reads_simp
  · after_reads_simp
    rfl

theorem post_v19 : StableHlo.after (hostOps1 (F := F)) V (Proc.devRef .tc main_v19) = V (Proc.devRef .tc main_v19) := by
  after_reads_simp

theorem post_v38 : StableHlo.after (hostOps1 (F := F)) V (Proc.devRef .tc main_v38) = V (Proc.devRef .tc main_v38) := by
  after_reads_simp

theorem post_v58 : StableHlo.after (hostOps1 (F := F)) V (Proc.devRef .tc main_v58) = V (Proc.devRef .tc main_v58) := by
  after_reads_simp

end Cert.ReferenceIdeal

end
-- ==== Proof.RefQuant.lean ====
/-
  The reference's terms over the extended reals: the exponent, the codes, the scale, the new history and the
  three products.
-/
module

public import proofs.«01_k».proof.Proof.Spec
public import proofs.«01_k».proof.Proof.RefReads
public import Idealize.ShloMosaic.Lib.Pipeline.Value
public import Idealize.ShloMosaic.Lib.Pointwise.Contract

@[expose] public section

noncomputable section

namespace Cert.ReferenceIdeal

open Idealize.ShloMosaic hiding ix1 ix2 ix3
open Cert.Scale Idealize.ShloMosaic.ValueIdx Idealize.ShloMosaic.TcCoe
open Cert.ReferenceIdeal.Gen

/-- A scalar has one entry. -/
theorem only (i j : S_.Idx) : i = j := by
  funext a
  exact a.elim0

/-- The maximum over all axes is the supremum. -/
theorem reduce_all {s : Shape} {axes : List (Fin s.rank)} (x : FVec Ideal s .f32) (h : s.ReducesTo axes S_) (i : S_.Idx) :
    (Host.reduce (FloatOps.maximumf (F := Ideal) (φ := .f32)) x (constant (F := Ideal) S_ .f32 0xFF800000#32) h h_S_ i : EReal) = ⨆ j, (x j : EReal) := by
  refine eq_of_forall_ge_iff fun b => ?_
  rw [hostReduce_le_iff x (constant (F := Ideal) S_ .f32 0xFF800000#32) h h_S_ i b (fun _ => word_bot), iSup_le_iff]
  exact ⟨fun H j => H j (only _ _), fun H j _ => H j⟩

theorem boundT_apply (k : BitVec 32) (h : FVec Ideal S16 .f32) (i : S_.Idx) :
    (boundT k h i : EReal) = bound k (⨆ j, (h j : EReal)) := by
  have e : (boundT k h i : EReal) =
      absE (Host.reduce (FloatOps.maximumf (F := Ideal) (φ := .f32)) h (constant (F := Ideal) S_ .f32 0xFF800000#32) reducesTo_S16_S_d0 h_S_ i * word k) := rfl
  rw [e, reduce_all]
  rfl

/-- The exponent as the extended reals compute it. -/
def expE (a : EReal) : EReal :=
  Scalar.select (Scalar.andi (Ideal.cmp .ogt a (word 0x00000000#32)) (Ideal.cmp .olt a (word 0x7F800000#32)))
    (min (word 0x43000000#32) (max (word 0xC3140000#32)
      (Ideal.liftRound Int.floor (Ideal.div (Ideal.log a) (Ideal.log (word 0x40000000#32))) + word 0x3F800000#32)))
    (word 0x00000000#32)

theorem expT_apply (y : FVec Ideal S_ .f32) (i : S_.Idx) : (expT y i : EReal) = expE (y i) := rfl

/-- The guard holds of the positive real numbers alone. -/
theorem guard (a : EReal) : Scalar.andi (Ideal.cmp .ogt a (word 0x00000000#32)) (Ideal.cmp .olt a (word 0x7F800000#32)) = 1 ↔ 0 < a ∧ a < ⊤ := by
  rw [word_zero, word_top]
  unfold Ideal.cmp Scalar.andi
  by_cases h0 : (0 : EReal) < a <;> by_cases h1 : a < ⊤ <;> simp [h0, h1, IntOp.andi]

/-- On a positive real number it is the clipped logarithm. -/
theorem expE_pos (r : ℝ) (hr : 0 < r) :
    min (word 0x43000000#32) (max (word 0xC3140000#32)
      (Ideal.liftRound Int.floor (Ideal.div (Ideal.log (r : EReal)) (Ideal.log (word 0x40000000#32))) + word 0x3F800000#32))
      = (((max (-148) (min 128 (⌊Real.log r / Real.log 2⌋ + 1)) : ℤ) : ℝ) : EReal) := by
  have h2 : Real.log 2 ≠ 0 := (Real.log_pos (by norm_num)).ne'
  rw [word_two, word_one, word_128, word_neg148, Ideal.log_coe, Ideal.log_coe, if_neg (not_le.mpr hr), if_neg (by norm_num),
    Ideal.div_coe h2, ← EReal.coe_mul]
  have e : Real.log r * (1 / Real.log 2) = Real.log r / Real.log 2 := by ring
  rw [e]
  show min ((128 : ℝ) : EReal) (max ((-148 : ℝ) : EReal) (((⌊Real.log r / Real.log 2⌋ : ℝ) : EReal) + ((1 : ℝ) : EReal))) = _
  generalize ⌊Real.log r / Real.log 2⌋ = z
  rw [← EReal.coe_add, ← EReal.coe_strictMono.monotone.map_max, ← EReal.coe_strictMono.monotone.map_min]
  congr 1
  have e2 : max (-148) (min 128 (z + 1)) = min 128 (max (-148) (z + 1)) := by omega
  rw [e2]
  push_cast
  rfl

theorem expE_eq (a : EReal) : expE a = ((qexp a : ℝ) : EReal) := by
  unfold expE Scalar.select qexp
  by_cases h : 0 < a ∧ a < ⊤
  · rw [if_pos ((guard a).mpr h), if_pos h]
    obtain ⟨h0, h1⟩ := h
    lift a to ℝ using ⟨h1.ne, (EReal.bot_lt_zero.trans h0).ne'⟩
    rw [expE_pos a (by exact_mod_cast h0), EReal.toReal_coe]
  · rw [if_neg (fun h' => h ((guard a).mp h')), if_neg h, word_zero]
    simp

/-- The exponent of a tensor's scale. -/
theorem exp_eq (k : BitVec 32) (h : FVec Ideal S16 .f32) (i : S_.Idx) : (expT (boundT k h) i : EReal) = ((exponent k h : ℝ) : EReal) := by
  rw [expT_apply, boundT_apply, expE_eq]
  rfl

/-- Two to an integer. -/
theorem pow_int (z : ℤ) : Ideal.pow (word 0x40000000#32) ((z : ℝ) : EReal) = two z := by
  rw [word_two, Ideal.pow_coe_coe]
  exact congrArg _ (Real.rpow_intCast 2 z)

theorem scale_eq (k : BitVec 32) (h : FVec Ideal S16 .f32) (i : S_.Idx) : (scaleT (expT (boundT k h)) i : EReal) = two (exponent k h) := by
  have e : (scaleT (expT (boundT k h)) i : EReal) = Ideal.pow (word 0x40000000#32) (expT (boundT k h) i : EReal) := rfl
  rw [e, exp_eq, pow_int]

theorem codes_eq {s : Shape} (hb : S_.BroadcastsInDim s ![]) (lo hi k : BitVec 32) (h : FVec Ideal S16 .f32) (x : FVec Ideal s .f32) (i : s.Idx) :
    (codesT hb lo hi (expT (boundT k h)) x i : EReal) = code lo hi (exponent k h) (x i) := by
  have e : (codesT hb lo hi (expT (boundT k h)) x i : EReal) = min (word hi) (max (word lo)
      (x i * broadcastInDim s ![] hb (Host.powf (constant (F := Ideal) S_ .f32 0x40000000#32) (Host.negf (expT (boundT k h)))) i)) := rfl
  have e2 : ∀ j : S_.Idx, (Host.powf (constant (F := Ideal) S_ .f32 0x40000000#32) (Host.negf (expT (boundT k h))) j : EReal) = two (-exponent k h) := fun j => by
    have e3 : (Host.powf (constant (F := Ideal) S_ .f32 0x40000000#32) (Host.negf (expT (boundT k h))) j : EReal)
        = Ideal.pow (word 0x40000000#32) (-(expT (boundT k h) j : EReal)) := rfl
    rw [e3, exp_eq, ← pow_int]
    push_cast
    rfl
  rw [e]
  unfold broadcastInDim
  rw [e2]
  rfl

/-- The new history. -/
theorem hist_eq {s : Shape} {axes : List (Fin s.rank)} (h : FVec Ideal S16 .f32) (x : FVec Ideal s .f32) (hr : s.ReducesTo axes S_) :
    histT h (Host.reduce (FloatOps.maximumf (F := Ideal) (φ := .f32)) (Host.absf x) (constant (F := Ideal) S_ .f32 0xFF800000#32) hr h_S_) = history h x := by
  funext i
  unfold histT joinT history
  by_cases hi : (i 0).val = 15
  · rw [dif_pos hi]
    refine (concatenate_pair_apply_right 0 _ _ concatenates_S15_S1_S16_d0 i rfl rfl (ix1 0) (fun b hb => ?_) ?_).trans ?_
    · exact absurd (Subsingleton.elim _ _) hb
    · show 0 + 15 = (i 0).val
      omega
    · exact reduce_all (Host.absf x) hr _
  · rw [dif_neg hi]
    have h16 : (i 0).val < 16 := (i 0).isLt
    refine (concatenate_pair_apply_left 0 _ _ concatenates_S15_S1_S16_d0 i rfl (ix1 ⟨(i 0).val, by omega⟩) (fun b => ?_)).trans ?_
    · match b with
      | ⟨0, _⟩ => rfl
    · refine congrArg h ?_
      funext b
      match b with
      | ⟨0, _⟩ => exact Fin.ext (Nat.add_comm _ _)

/-! ## The products -/

theorem dot_y (a : FVec Ideal S4x3072x4096 .f32) (b : FVec Ideal S4096x8192 .f32) (i : S4x3072x8192.Idx) :
    (Host.dotGeneral dot_S4x3072x4096_S4096x8192_S4x3072x8192_2_0_01_1_n_n none a b i : EReal)
      = ∑ k : Fin 4096, (a (ix3 (i 0) (i 1) k) : EReal) * b (ix2 k (i 2)) := by
  refine (Ideal.matmul_apply₁_of dot_S4x3072x4096_S4096x8192_S4x3072x8192_2_0_01_1_n_n (a := 2) rfl (K := 4096) rfl a b (fun _ => 0) i
    (fun k => ix3 (i 0) (i 1) k) (fun k => ix2 k (i 2)) (fun k => ?_) (fun k => ?_)).trans (zero_add _)
  · funext q
    match q with
    | ⟨0, _⟩ => rfl
    | ⟨1, _⟩ => rfl
    | ⟨2, _⟩ => rfl
  · funext q
    match q with
    | ⟨0, _⟩ => rfl
    | ⟨1, _⟩ => rfl

theorem dot_dx (a : FVec Ideal S4x3072x8192 .f32) (b : FVec Ideal S4096x8192 .f32) (i : S4x3072x4096.Idx) :
    (Host.dotGeneral dot_S4x3072x8192_S4096x8192_S4x3072x4096_2_1_01_0_n_n none a b i : EReal)
      = ∑ k : Fin 8192, (a (ix3 (i 0) (i 1) k) : EReal) * b (ix2 (i 2) k) := by
  refine (Ideal.matmul_apply₁_of dot_S4x3072x8192_S4096x8192_S4x3072x4096_2_1_01_0_n_n (a := 2) rfl (K := 8192) rfl a b (fun _ => 0) i
    (fun k => ix3 (i 0) (i 1) k) (fun k => ix2 (i 2) k) (fun k => ?_) (fun k => ?_)).trans (zero_add _)
  · funext q
    match q with
    | ⟨0, _⟩ => rfl
    | ⟨1, _⟩ => rfl
    | ⟨2, _⟩ => rfl
  · funext q
    match q with
    | ⟨0, _⟩ => rfl
    | ⟨1, _⟩ => rfl

theorem dot_dw (a : FVec Ideal S4x3072x4096 .f32) (b : FVec Ideal S4x3072x8192 .f32) (i : S4096x8192.Idx) :
    (Host.dotGeneral dot_S4x3072x4096_S4x3072x8192_S4096x8192_01_01_2_2_n_n none a b i : EReal)
      = ∑ p : Fin 4, ∑ r : Fin 3072, (a (ix3 p r (i 0)) : EReal) * b (ix3 p r (i 1)) := by
  refine (Ideal.matmul_apply₂_of dot_S4x3072x4096_S4x3072x8192_S4096x8192_01_01_2_2_n_n (a := 0) (b := 1) rfl (K₁ := 4) (K₂ := 3072) rfl rfl a b (fun _ => 0) i
    (fun p r => ix3 p r (i 0)) (fun p r => ix3 p r (i 1)) (fun p r => ?_) (fun p r => ?_)).trans (zero_add _)
  · funext q
    match q with
    | ⟨0, _⟩ => rfl
    | ⟨1, _⟩ => rfl
    | ⟨2, _⟩ => rfl
  · funext q
    match q with
    | ⟨0, _⟩ => rfl
    | ⟨1, _⟩ => rfl
    | ⟨2, _⟩ => rfl

end Cert.ReferenceIdeal

end
-- ==== Proof.RefArrays.lean ====
/-
  What the reference's casts leave: over the extended reals a cast changes nothing, so each array is the array
  it was cast from.
-/
module

public import proofs.«01_k».proof.Proof.Gen.ReferenceIdeal.Frame
public import Idealize.ShloMosaic.Lib.Pipeline.ValueKit
public import Idealize.ShloMosaic.Lib.Pipeline.ValueKit.Geometry

@[expose] public section

noncomputable section

namespace Cert.ReferenceIdeal

open Idealize.ShloMosaic Idealize.ShloMosaic.ValueIdx Idealize.ShloMosaic.TcCoe
open Cert.ReferenceIdeal.Gen
open Idealize.ShloMosaic.Pipeline (Dat)

variable (m : (l : Loc nD τ sig) → Buf (Elt Ideal) l) (c : Dev nD)

theorem index_0 : ∀ t : Fin cfg0.N, win0_0.index t = ![0, 0, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0, 0] := (by decide +kernel : ∀ t : Fin grid0.N, _)

/-- The arrays the casts read. -/
def X : FVec Ideal S4x3072x4096 .f32 := V m c main_v18
/-- The weights'. -/
def W : FVec Ideal S4096x8192 .f32 := V m c main_v37
/-- The incoming gradient's. -/
def DY : FVec Ideal S4x3072x8192 .f32 := V m c main_v57

theorem out_3 (x : Vec Ideal S4x3072x4096 .f32) (w : Vec Ideal S4096x8192 .f32) (dy : Vec Ideal S4x3072x8192 .f32) : out0_3 (F := Ideal) x w dy = x := by
  unfold out0_3
  rw [View.canon_cons_unit_lit _ _ _ (by decide), View.ld_unit_lit _ _ (by decide)]
  exact shapeCast_self _ _

theorem out_4 (x : Vec Ideal S4x3072x4096 .f32) (w : Vec Ideal S4096x8192 .f32) (dy : Vec Ideal S4x3072x8192 .f32) : out0_4 (F := Ideal) x w dy = w := by
  unfold out0_4
  rw [View.canon_cons_unit_lit _ _ _ (by decide), View.ld_unit_lit _ _ (by decide)]
  exact shapeCast_self _ _

theorem out_5 (x : Vec Ideal S4x3072x4096 .f32) (w : Vec Ideal S4096x8192 .f32) (dy : Vec Ideal S4x3072x8192 .f32) : out0_5 (F := Ideal) x w dy = dy := by
  unfold out0_5
  rw [View.canon_cons_unit_lit _ _ _ (by decide), View.ld_unit_lit _ _ (by decide)]
  exact shapeCast_self _ _

theorem out_6 (x : Vec Ideal S4x3072x4096 .f32) (w : Vec Ideal S4096x8192 .f32) (dy : Vec Ideal S4x3072x8192 .f32) : out0_6 (F := Ideal) x w dy = x := by
  unfold out0_6
  rw [View.canon_cons_unit_lit _ _ _ (by decide), View.ld_unit_lit _ _ (by decide)]
  exact shapeCast_self _ _

theorem out_7 (x : Vec Ideal S4x3072x4096 .f32) (w : Vec Ideal S4096x8192 .f32) (dy : Vec Ideal S4x3072x8192 .f32) : out0_7 (F := Ideal) x w dy = w := by
  unfold out0_7
  rw [View.canon_cons_unit_lit _ _ _ (by decide), View.ld_unit_lit _ _ (by decide)]
  exact shapeCast_self _ _

theorem out_8 (x : Vec Ideal S4x3072x4096 .f32) (w : Vec Ideal S4096x8192 .f32) (dy : Vec Ideal S4x3072x8192 .f32) : out0_8 (F := Ideal) x w dy = dy := by
  unfold out0_8
  rw [View.canon_cons_unit_lit _ _ _ (by decide), View.ld_unit_lit _ _ (by decide)]
  exact shapeCast_self _ _

theorem arr_3 : (dats m 0 c).arrAt 3 cfg0.N = X m c := by
  refine (dats m 0 c).arrAt_eq_of_covers 3 _ (by decide +kernel) fun t hf y => ?_
  blk_simp
  rw [after0_3, out_3]
  unfold X
  blk_ext [iblk, index_0, index_3]

theorem arr_4 : (dats m 0 c).arrAt 4 cfg0.N = W m c := by
  refine (dats m 0 c).arrAt_eq_of_covers 4 _ (by decide +kernel) fun t hf y => ?_
  blk_simp
  rw [after0_4, out_4]
  unfold W
  blk_ext [iblk, index_1, index_4]

theorem arr_5 : (dats m 0 c).arrAt 5 cfg0.N = DY m c := by
  refine (dats m 0 c).arrAt_eq_of_covers 5 _ (by decide +kernel) fun t hf y => ?_
  blk_simp
  rw [after0_5, out_5]
  unfold DY
  blk_ext [iblk, index_2, index_5]

theorem arr_6 : (dats m 0 c).arrAt 6 cfg0.N = X m c := by
  refine (dats m 0 c).arrAt_eq_of_covers 6 _ (by decide +kernel) fun t hf y => ?_
  blk_simp
  rw [after0_6, out_6]
  unfold X
  blk_ext [iblk, index_0, index_6]

theorem arr_7 : (dats m 0 c).arrAt 7 cfg0.N = W m c := by
  refine (dats m 0 c).arrAt_eq_of_covers 7 _ (by decide +kernel) fun t hf y => ?_
  blk_simp
  rw [after0_7, out_7]
  unfold W
  blk_ext [iblk, index_1, index_7]

theorem arr_8 : (dats m 0 c).arrAt 8 cfg0.N = DY m c := by
  refine (dats m 0 c).arrAt_eq_of_covers 8 _ (by decide +kernel) fun t hf y => ?_
  blk_simp
  rw [after0_8, out_8]
  unfold DY
  blk_ext [iblk, index_2, index_8]

end Cert.ReferenceIdeal

end
-- ==== Proof.RefValue.lean ====
/-
  The reference's twelve results, as the written-out functions of its arguments.
-/
module

public import proofs.«01_k».proof.Proof.RefQuant
public import proofs.«01_k».proof.Proof.RefArrays

@[expose] public section

noncomputable section

namespace Cert.ReferenceIdeal

open Idealize.ShloMosaic hiding ix1 ix2 ix3
open Cert.Scale Idealize.ShloMosaic.ValueIdx Idealize.ShloMosaic.TcCoe Idealize.SL.Sem
open Cert.ReferenceIdeal.Gen

/-! ## The products, scaled -/

theorem y_eq (a : FVec Ideal S4x3072x4096 .f32) (b : FVec Ideal S4096x8192 .f32) (s s' : FVec Ideal S_ .f32) (σ σ' : EReal)
    (hs : ∀ i, (s i : EReal) = σ) (hs' : ∀ i, (s' i : EReal) = σ') :
    (truncf .bf16 (mulf (Host.dotGeneral dot_S4x3072x4096_S4096x8192_S4x3072x8192_2_0_01_1_n_n none a b : FVec Ideal S4x3072x8192 .f32)
        (broadcastInDim S4x3072x8192 ![] bcast_S_S4x3072x8192 (mulf s s'))) : FVec Ideal S4x3072x8192 .bf16) = forward a b (σ * σ') := by
  funext i
  refine (show _ = (Host.dotGeneral dot_S4x3072x4096_S4096x8192_S4x3072x8192_2_0_01_1_n_n none a b i : EReal) *
    broadcastInDim S4x3072x8192 ![] bcast_S_S4x3072x8192 (mulf s s') i from rfl).trans ?_
  rw [dot_y]
  refine (show _ = (∑ k : Fin 4096, (a (ix3 (i 0) (i 1) k) : EReal) * b (ix2 k (i 2))) * ((s _ : EReal) * s' _) from rfl).trans ?_
  rw [hs, hs']
  rfl

theorem dx_eq (a : FVec Ideal S4x3072x8192 .f32) (b : FVec Ideal S4096x8192 .f32) (s s' : FVec Ideal S_ .f32) (σ σ' : EReal)
    (hs : ∀ i, (s i : EReal) = σ) (hs' : ∀ i, (s' i : EReal) = σ') :
    (truncf .bf16 (mulf (Host.dotGeneral dot_S4x3072x8192_S4096x8192_S4x3072x4096_2_1_01_0_n_n none a b : FVec Ideal S4x3072x4096 .f32)
        (broadcastInDim S4x3072x4096 ![] bcast_S_S4x3072x4096 (mulf s s'))) : FVec Ideal S4x3072x4096 .bf16) = gradX a b (σ * σ') := by
  funext i
  refine (show _ = (Host.dotGeneral dot_S4x3072x8192_S4096x8192_S4x3072x4096_2_1_01_0_n_n none a b i : EReal) *
    broadcastInDim S4x3072x4096 ![] bcast_S_S4x3072x4096 (mulf s s') i from rfl).trans ?_
  rw [dot_dx]
  refine (show _ = (∑ k : Fin 8192, (a (ix3 (i 0) (i 1) k) : EReal) * b (ix2 (i 2) k)) * ((s _ : EReal) * s' _) from rfl).trans ?_
  rw [hs, hs']
  rfl

theorem dw_eq (a : FVec Ideal S4x3072x4096 .f32) (b : FVec Ideal S4x3072x8192 .f32) (s s' : FVec Ideal S_ .f32) (σ σ' : EReal)
    (hs : ∀ i, (s i : EReal) = σ) (hs' : ∀ i, (s' i : EReal) = σ') :
    (mulf (Host.dotGeneral dot_S4x3072x4096_S4x3072x8192_S4096x8192_01_01_2_2_n_n none a b : FVec Ideal S4096x8192 .f32)
        (broadcastInDim S4096x8192 ![] bcast_S_S4096x8192 (mulf s s')) : FVec Ideal S4096x8192 .f32) = gradW a b (σ * σ') := by
  funext i
  refine (show _ = (Host.dotGeneral dot_S4x3072x4096_S4x3072x8192_S4096x8192_01_01_2_2_n_n none a b i : EReal) *
    broadcastInDim S4096x8192 ![] bcast_S_S4096x8192 (mulf s s') i from rfl).trans ?_
  rw [dot_dw]
  refine (show _ = (∑ p : Fin 4, ∑ r : Fin 3072, (a (ix3 p r (i 0)) : EReal) * b (ix3 p r (i 1))) * ((s _ : EReal) * s' _) from rfl).trans ?_
  rw [hs, hs']
  rfl

variable (m : (l : Loc nD τ sig) → Buf (Elt Ideal) l) (c : Dev nD)

/-! ## The arguments -/

def x : FVec Ideal S4x3072x4096 .bf16 := m ((c.tc : Thread nD τ).loc main_arg0)
def w : FVec Ideal S4096x8192 .f32 := m ((c.tc : Thread nD τ).loc main_arg1)
def dy : FVec Ideal S4x3072x8192 .bf16 := m ((c.tc : Thread nD τ).loc main_arg2)
def hx : FVec Ideal S16 .f32 := m ((c.tc : Thread nD τ).loc main_arg3)
def hw : FVec Ideal S16 .f32 := m ((c.tc : Thread nD τ).loc main_arg4)
def hdy : FVec Ideal S16 .f32 := m ((c.tc : Thread nD τ).loc main_arg5)

/-! ## The codes and the scales -/

/-- The memory as launched. -/
abbrev M : Valuation τ sig (Elt Ideal) := fun b => m (c, b)

theorem X_eq : X m c = codes8 (hx m c) (x m c) :=
  (pre_v18 (M m c)).trans (funext fun i => codes_eq bcast_S_S4x3072x4096 0xC3E00000#32 0x43E00000#32 0x3B124925#32 (hx m c) (x m c) i)
theorem W_eq : W m c = codes8 (hw m c) (w m c) :=
  (pre_v37 (M m c)).trans (funext fun i => codes_eq bcast_S_S4096x8192 0xC3E00000#32 0x43E00000#32 0x3B124925#32 (hw m c) (w m c) i)
theorem DY_eq : DY m c = codes16 (hdy m c) (dy m c) :=
  (pre_v57 (M m c)).trans (funext fun i => codes_eq bcast_S_S4x3072x8192 0xC7600000#32 0x47600000#32 0x37924925#32 (hdy m c) (dy m c) i)

/-- What the operations after the casts start from. -/
def U : Valuation τ sig (Elt Ideal) := Pipeline.withArrays spec0 c (V0 m c) fun w => (dats m 0 c).arrAt w cfg0.N

/-- A buffer the casts do not write. -/
theorem U_ne (b : Ref sig .tc) (hb : ∀ w, Pipeline.arrRef spec0 w ≠ b) : U m c (Proc.devRef .tc b) = V0 m c (Proc.devRef .tc b) :=
  Pipeline.withArrays_of_ne _ c (V0 m c) _ b hb

theorem U_v59_3 : U m c (Proc.devRef .tc main_v59_3) = codes8 (hx m c) (x m c) :=
  (Pipeline.withArrays_arr spec0 launch0.win.arr_inj c (V0 m c) (fun w => (dats m 0 c).arrAt w cfg0.N) 6).trans ((arr_6 m c).trans (X_eq m c))
theorem U_v59_4 : U m c (Proc.devRef .tc main_v59_4) = codes8 (hw m c) (w m c) :=
  (Pipeline.withArrays_arr spec0 launch0.win.arr_inj c (V0 m c) (fun w => (dats m 0 c).arrAt w cfg0.N) 7).trans ((arr_7 m c).trans (W_eq m c))
theorem U_v59_5 : U m c (Proc.devRef .tc main_v59_5) = codes16 (hdy m c) (dy m c) :=
  (Pipeline.withArrays_arr spec0 launch0.win.arr_inj c (V0 m c) (fun w => (dats m 0 c).arrAt w cfg0.N) 8).trans ((arr_8 m c).trans (DY_eq m c))

theorem U_v19 : U m c (Proc.devRef .tc main_v19) = fun _ => scale8 (hx m c) :=
  (U_ne m c main_v19 (by exact (by decide : ∀ w, Pipeline.arrRef spec0 w ≠ main_v19))).trans <|
    (pre_v19 (M m c)).trans (funext fun i => scale_eq 0x3B124925#32 (hx m c) i)
theorem U_v38 : U m c (Proc.devRef .tc main_v38) = fun _ => scale8 (hw m c) :=
  (U_ne m c main_v38 (by exact (by decide : ∀ w, Pipeline.arrRef spec0 w ≠ main_v38))).trans <|
    (pre_v38 (M m c)).trans (funext fun i => scale_eq 0x3B124925#32 (hw m c) i)
theorem U_v58 : U m c (Proc.devRef .tc main_v58) = fun _ => scale16 (hdy m c) :=
  (U_ne m c main_v58 (by exact (by decide : ∀ w, Pipeline.arrRef spec0 w ≠ main_v58))).trans <|
    (pre_v58 (M m c)).trans (funext fun i => scale_eq 0x37924925#32 (hdy m c) i)

theorem U_arg0 : U m c (Proc.devRef .tc main_arg0) = x m c :=
  (U_ne m c main_arg0 (by exact (by decide : ∀ w, Pipeline.arrRef spec0 w ≠ main_arg0))).trans (V_main_arg0 m c)
theorem U_arg1 : U m c (Proc.devRef .tc main_arg1) = w m c :=
  (U_ne m c main_arg1 (by exact (by decide : ∀ w, Pipeline.arrRef spec0 w ≠ main_arg1))).trans (V_main_arg1 m c)
theorem U_arg2 : U m c (Proc.devRef .tc main_arg2) = dy m c :=
  (U_ne m c main_arg2 (by exact (by decide : ∀ w, Pipeline.arrRef spec0 w ≠ main_arg2))).trans (V_main_arg2 m c)
theorem U_arg3 : U m c (Proc.devRef .tc main_arg3) = hx m c :=
  (U_ne m c main_arg3 (by exact (by decide : ∀ w, Pipeline.arrRef spec0 w ≠ main_arg3))).trans (V_main_arg3 m c)
theorem U_arg4 : U m c (Proc.devRef .tc main_arg4) = hw m c :=
  (U_ne m c main_arg4 (by exact (by decide : ∀ w, Pipeline.arrRef spec0 w ≠ main_arg4))).trans (V_main_arg4 m c)
theorem U_arg5 : U m c (Proc.devRef .tc main_arg5) = hdy m c :=
  (U_ne m c main_arg5 (by exact (by decide : ∀ w, Pipeline.arrRef spec0 w ≠ main_arg5))).trans (V_main_arg5 m c)

/-! ## The results -/

/-- What the operations after the casts leave in a buffer. -/
def E (b : Ref sig .tc) : Buf (Elt Ideal) ((c.tc : Thread nD τ).loc b) := Pipeline.afterTail₀ cfgs (dats m) 0 (V0 m) [hostOps1] c b

theorem E_eq (b : Ref sig .tc) : E m c b = StableHlo.after (hostOps1 (F := Ideal)) (U m c) (Proc.devRef .tc b) := by
  unfold E Pipeline.afterTail₀
  rw [List.flatten_cons, List.flatten_nil, List.append_nil]
  rfl

theorem E_v64 : E m c main_v64 = forward (codes8 (hx m c) (x m c)) (codes8 (hw m c) (w m c)) (scale8 (hx m c) * scale8 (hw m c)) := by
  refine (E_eq m c _).trans ((post_v64 (U m c)).trans ?_)
  rw [U_v59_3, U_v59_4]
  exact y_eq _ _ _ _ _ _ (fun i => congrFun (U_v19 m c) i) (fun i => congrFun (U_v38 m c) i)

theorem E_v69 : E m c main_v69 = gradX (codes16 (hdy m c) (dy m c)) (codes8 (hw m c) (w m c)) (scale16 (hdy m c) * scale8 (hw m c)) := by
  refine (E_eq m c _).trans ((post_v69 (U m c)).trans ?_)
  rw [U_v59_5, U_v59_4]
  exact dx_eq _ _ _ _ _ _ (fun i => congrFun (U_v58 m c) i) (fun i => congrFun (U_v38 m c) i)

theorem E_v73 : E m c main_v73 = gradW (codes8 (hx m c) (x m c)) (codes16 (hdy m c) (dy m c)) (scale8 (hx m c) * scale16 (hdy m c)) := by
  refine (E_eq m c _).trans ((post_v73 (U m c)).trans ?_)
  rw [U_v59_3, U_v59_5]
  exact dw_eq _ _ _ _ _ _ (fun i => congrFun (U_v19 m c) i) (fun i => congrFun (U_v58 m c) i)

theorem E_v79 : E m c main_v79 = history (hx m c) (x m c) := by
  refine (E_eq m c _).trans ((post_v79 (U m c)).trans ?_)
  unfold xT
  rw [U_arg3, U_arg0]
  exact hist_eq (hx m c) (extf .f32 (x m c)) reducesTo_S4x3072x4096_S_d0_1_2

theorem E_v84 : E m c main_v84 = history (hw m c) (w m c) := by
  refine (E_eq m c _).trans ((post_v84 (U m c)).trans ?_)
  unfold wT
  rw [U_arg4, U_arg1]
  exact hist_eq (hw m c) (w m c) reducesTo_S4096x8192_S_d0_1

theorem E_v90 : E m c main_v90 = history (hdy m c) (dy m c) := by
  refine (E_eq m c _).trans ((post_v90 (U m c)).trans ?_)
  unfold dyT
  rw [U_arg5, U_arg2]
  exact hist_eq (hdy m c) (extf .f32 (dy m c)) reducesTo_S4x3072x8192_S_d0_1_2

theorem E_v19 : E m c main_v19 = fun _ => scale8 (hx m c) := (E_eq m c _).trans ((post_v19 (U m c)).trans (U_v19 m c))
theorem E_v38 : E m c main_v38 = fun _ => scale8 (hw m c) := (E_eq m c _).trans ((post_v38 (U m c)).trans (U_v38 m c))
theorem E_v58 : E m c main_v58 = fun _ => scale16 (hdy m c) := (E_eq m c _).trans ((post_v58 (U m c)).trans (U_v58 m c))

/-- Every execution leaves these results. -/
theorem run_values (ρ : Dev nD → PrngReg) :
    θ_run defs (onTc (τ := τ) (main (F := Ideal))) ⟨m, fun _ => 0, ρ⟩ (fun r => ∀ c : Dev nD,
      r.2.mem ((c.tc : Thread nD τ).loc main_v64) = forward (codes8 (hx m c) (x m c)) (codes8 (hw m c) (w m c)) (scale8 (hx m c) * scale8 (hw m c))
      ∧ r.2.mem ((c.tc : Thread nD τ).loc main_v69) = gradX (codes16 (hdy m c) (dy m c)) (codes8 (hw m c) (w m c)) (scale16 (hdy m c) * scale8 (hw m c))
      ∧ r.2.mem ((c.tc : Thread nD τ).loc main_v73) = gradW (codes8 (hx m c) (x m c)) (codes16 (hdy m c) (dy m c)) (scale8 (hx m c) * scale16 (hdy m c))
      ∧ r.2.mem ((c.tc : Thread nD τ).loc main_v79) = history (hx m c) (x m c)
      ∧ r.2.mem ((c.tc : Thread nD τ).loc main_v84) = history (hw m c) (w m c)
      ∧ r.2.mem ((c.tc : Thread nD τ).loc main_v90) = history (hdy m c) (dy m c)
      ∧ r.2.mem ((c.tc : Thread nD τ).loc main_v59_0) = codes8 (hx m c) (x m c)
      ∧ r.2.mem ((c.tc : Thread nD τ).loc main_v19) = (fun _ => scale8 (hx m c))
      ∧ r.2.mem ((c.tc : Thread nD τ).loc main_v59_1) = codes8 (hw m c) (w m c)
      ∧ r.2.mem ((c.tc : Thread nD τ).loc main_v38) = (fun _ => scale8 (hw m c))
      ∧ r.2.mem ((c.tc : Thread nD τ).loc main_v59_2) = codes16 (hdy m c) (dy m c)
      ∧ r.2.mem ((c.tc : Thread nD τ).loc main_v58) = (fun _ => scale16 (hdy m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h.1 c).2 main_v64 (Pipeline.mem_restRefs_of main_v64 (by decide) (by decide))).trans (E_v64 m c),
     ((h.1 c).2 main_v69 (Pipeline.mem_restRefs_of main_v69 (by decide) (by decide))).trans (E_v69 m c),
     ((h.1 c).2 main_v73 (Pipeline.mem_restRefs_of main_v73 (by decide) (by decide))).trans (E_v73 m c),
     ((h.1 c).2 main_v79 (Pipeline.mem_restRefs_of main_v79 (by decide) (by decide))).trans (E_v79 m c),
     ((h.1 c).2 main_v84 (Pipeline.mem_restRefs_of main_v84 (by decide) (by decide))).trans (E_v84 m c),
     ((h.1 c).2 main_v90 (Pipeline.mem_restRefs_of main_v90 (by decide) (by decide))).trans (E_v90 m c),
     ((h.1 c).1 3).trans ((arr_3 m c).trans (X_eq m c)),
     ((h.1 c).2 main_v19 (Pipeline.mem_restRefs_of main_v19 (by decide) (by decide))).trans (E_v19 m c),
     ((h.1 c).1 4).trans ((arr_4 m c).trans (W_eq m c)),
     ((h.1 c).2 main_v38 (Pipeline.mem_restRefs_of main_v38 (by decide) (by decide))).trans (E_v38 m c),
     ((h.1 c).1 5).trans ((arr_5 m c).trans (DY_eq m c)),
     ((h.1 c).2 main_v58 (Pipeline.mem_restRefs_of main_v58 (by decide) (by decide))).trans (E_v58 m c),
     h.2 c⟩) (θ_run_and (run_main m ρ) (unchanged m ρ))

end Cert.ReferenceIdeal

end
-- ==== Proof.Join.lean ====
/-
  The kernel program and the reference, from equal arguments, leave equal results over the extended reals.
-/
module

public import proofs.«01_k».proof.Defs
public import proofs.«01_k».proof.Proof.KernelValue
public import proofs.«01_k».proof.Proof.Frames
public import proofs.«01_k».proof.Proof.RefValue
public import proofs.«01_k».proof.Proof.Gen.KernelIdeal
public import proofs.«01_k».proof.Proof.Gen.ReferenceIdeal

@[expose] public section

noncomputable section

namespace Cert.Proof

open Idealize.ShloMosaic Idealize.SL.Sem Cert.Scale

open Cert.KernelIdeal Cert.KernelIdeal.Chain in
/-- Every execution of the kernel program leaves these results. -/
theorem kernel_values (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14) = forward (codes8 (hx m c) (x m c)) (codes8 (hw m c) (w m c)) (scale8 (hx m c) * scale8 (hw m c))
      ∧ r.2.mem ((c.tc : Thread nD τ).loc main_v15) = gradX (codes16 (hdy m c) (dy m c)) (codes8 (hw m c) (w m c)) (scale16 (hdy m c) * scale8 (hw m c))
      ∧ r.2.mem ((c.tc : Thread nD τ).loc main_v13) = gradW (codes8 (hx m c) (x m c)) (codes16 (hdy m c) (dy m c)) (scale8 (hx m c) * scale16 (hdy m c))
      ∧ r.2.mem ((c.tc : Thread nD τ).loc main_v3) = history (hx m c) (x m c)
      ∧ r.2.mem ((c.tc : Thread nD τ).loc main_v6) = history (hw m c) (w m c)
      ∧ r.2.mem ((c.tc : Thread nD τ).loc main_v10) = history (hdy m c) (dy m c)
      ∧ r.2.mem ((c.tc : Thread nD τ).loc main_v16) = codes8 (hx m c) (x m c)
      ∧ r.2.mem ((c.tc : Thread nD τ).loc main_v17) = (fun _ => scale8 (hx m c))
      ∧ r.2.mem ((c.tc : Thread nD τ).loc main_v5_0) = codes8 (hw m c) (w m c)
      ∧ r.2.mem ((c.tc : Thread nD τ).loc main_v18) = (fun _ => scale8 (hw m c))
      ∧ r.2.mem ((c.tc : Thread nD τ).loc main_v19) = codes16 (hdy m c) (dy m c)
      ∧ r.2.mem ((c.tc : Thread nD τ).loc main_v20) = (fun _ => scale16 (hdy m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h.1 c _ (in_uc main_v14 (by decide))).trans (end_v14 m c), (h.1 c _ (in_uc main_v15 (by decide))).trans (end_v15 m c),
     (h.1 c _ (in_uc main_v13 (by decide))).trans (end_v13 m c), (h.1 c _ (in_uc main_v3 (by decide))).trans (xhist m c),
     (h.1 c _ (in_uc main_v6 (by decide))).trans (whist m c), (h.1 c _ (in_uc main_v10 (by decide))).trans (dyhist m c),
     (h.1 c _ (in_uc main_v16 (by decide))).trans (end_v16 m c), (h.1 c _ (in_uc main_v17 (by decide))).trans (end_v17 m c),
     (h.1 c _ (in_uc main_v5_0 (by decide))).trans (end_v5_0 m c), (h.1 c _ (in_uc main_v18 (by decide))).trans (end_v18 m c),
     (h.1 c _ (in_uc main_v19 (by decide))).trans (end_v19 m c), (h.1 c _ (in_uc main_v20 (by decide))).trans (end_v20 m c),
     (h.1 c _ (in_uc main_arg0 (by decide))).trans (kept0 m c), (h.1 c _ (in_uc main_arg1 (by decide))).trans (kept1 m c),
     (h.1 c _ (in_uc main_arg2 (by decide))).trans (kept2 m c), (h.1 c _ (in_uc main_arg3 (by decide))).trans (kept3 m c),
     (h.1 c _ (in_uc main_arg4 (by decide))).trans (kept4 m c), (h.1 c _ (in_uc main_arg5 (by decide))).trans (kept5 m c)⟩) (run_ends m ρ)

/-- The claim on values: from equal arguments the two programs' results are equal. -/
theorem algebraic : algebraic_KernelIdeal_ReferenceIdeal (hKernelIdeal := Cert.KernelIdeal.Gen.facts) (hReferenceIdeal := Cert.ReferenceIdeal.Gen.facts) := by
  intro m g m' g' _ hargs
  refine ⟨_, _, _, _, _, _, _, _, _, _, _, _, kernel_values m g, (θ_run _ _ _).mono (fun r h c => ?_) (Cert.ReferenceIdeal.run_values m' g')⟩
  have e0 : Cert.ReferenceIdeal.x m' c = Cert.KernelIdeal.Chain.x m c := (hargs c).1
  have e1 : Cert.ReferenceIdeal.w m' c = Cert.KernelIdeal.Chain.w m c := (hargs c).2.1
  have e2 : Cert.ReferenceIdeal.dy m' c = Cert.KernelIdeal.Chain.dy m c := (hargs c).2.2.1
  have e3 : Cert.ReferenceIdeal.hx m' c = Cert.KernelIdeal.Chain.hx m c := (hargs c).2.2.2.1
  have e4 : Cert.ReferenceIdeal.hw m' c = Cert.KernelIdeal.Chain.hw m c := (hargs c).2.2.2.2.1
  have e5 : Cert.ReferenceIdeal.hdy m' c = Cert.KernelIdeal.Chain.hdy m c := (hargs c).2.2.2.2.2
  have hc := h c
  rw [e0, e1, e2, e3, e4, e5] at hc
  exact hc

end Cert.Proof
end
-- ==== Proof.lean ====
/-
  The claim: the kernel program, as compiled and over the reals, and the reference over the reals run to an end,
  keep their arguments and leave every counter at zero; and over the reals, from equal arguments, the kernel
  program's twelve results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Regions
public import proofs.«01_k».proof.Proof.Gen.KernelIdeal.Regions
public import proofs.«01_k».proof.Proof.Gen.Kernel.Skeleton
public import proofs.«01_k».proof.Proof.Gen.KernelIdeal.Skeleton
public import proofs.«01_k».proof.Proof.Gen.Kernel.Points
public import proofs.«01_k».proof.Proof.Gen.KernelIdeal.Points
public import proofs.«01_k».proof.Proof.Gen.ReferenceIdeal.Frame
public import proofs.«01_k».proof.Proof.Bitsframe
public import proofs.«01_k».proof.Proof.Join

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  quiescent_kernel, fun m g _ => Cert.KernelIdeal.Chain.frame m g, fun m g _ => Cert.ReferenceIdeal.Gen.frame m g, trivial, algebraic⟩

end Cert.Proof
end
